-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "big" .f32 0x4E6E6B28#32 ⊤

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S32x2048 : Shape := ⟨2, ![32, 2048]⟩
abbrev S32 : Shape := ⟨1, ![32]⟩
abbrev S16384x32 : Shape := ⟨2, ![16384, 32]⟩
abbrev S2048x32 : Shape := ⟨2, ![2048, 32]⟩
abbrev S2048 : Shape := ⟨1, ![2048]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S32x2048 : S_.BroadcastsInDim S32x2048 (![] : Fin 0 → Fin S32x2048.rank)
  reducesTo_S32x2048_S_d0_1 : S32x2048.ReducesTo [0, 1] S_
  bcast_S_S32 : S_.BroadcastsInDim S32 (![] : Fin 0 → Fin S32.rank)
  reducesTo_S32_S_d0 : S32.ReducesTo [0] S_
  bcast_S_S16384x32 : S_.BroadcastsInDim S16384x32 (![] : Fin 0 → Fin S16384x32.rank)
  reducesTo_S16384x32_S_d0_1 : S16384x32.ReducesTo [0, 1] S_

variable [Facts]

def fn_part1 {F : FTy → Type} [FloatOps F] (main_v13 : IVec S_ 1) (main_v16 : IVec S16384x32 1) : IVec S_ 1 :=
  let main_c_5 : IVec S_ 1 := constantI S_ 1 1#1
  let main_v17 : IVec S_ 1 := (fun x v => Host.reduce IntOp.andi x v reducesTo_S16384x32_S_d0_1 h_S_) main_v16 main_c_5
  let main_v18 : IVec S_ 1 := andi main_v13 main_v17
  main_v18

def fn {F : FTy → Type} [FloatOps F] (main_arg0 : FVec F S8x2048x512 .f32) (main_arg1 : FVec F S32x2048 .f32) (main_arg2 : FVec F S32 .f32) (main_arg3 : FVec F S16384x32 .f32) (main_arg4 : FVec F S2048x32 .f32) (main_arg5 : FVec F S2048 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S32x2048 .f32 := Host.absf main_arg1
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S16384x32 .f32 := Host.absf main_arg3
  let main_cst_4 : FVec F S_ .f32 := constant S_ .f32 0x7F800000#32
  let main_v15 : FVec F S16384x32 .f32 := broadcastInDim S16384x32 ![] bcast_S_S16384x32 main_cst_4
  let main_v16 : IVec S16384x32 1 := cmpf .olt main_v14 main_v15
  fn_part1 (F := F) main_v13 main_v16
-- ==== Kernel.lean ====
abbrev S8x2048x512 : Shape := ⟨3, ![8, 2048, 512]⟩
abbrev S32x2048 : Shape := ⟨2, ![32, 2048]⟩
abbrev S32 : Shape := ⟨1, ![32]⟩
abbrev S16384x32 : Shape := ⟨2, ![16384, 32]⟩
abbrev S2048x32 : Shape := ⟨2, ![2048, 32]⟩
abbrev S2048 : Shape := ⟨1, ![2048]⟩
abbrev S_ : Shape := ⟨0, ![]⟩
abbrev S16384 : Shape := ⟨1, ![16384]⟩
abbrev S1x16384 : Shape := ⟨2, ![1, 16384]⟩
abbrev S32x1 : Shape := ⟨2, ![32, 1]⟩
abbrev S2048x1 : Shape := ⟨2, ![2048, 1]⟩
abbrev S4096x1 : Shape := ⟨2, ![4096, 1]⟩
abbrev S1x1 : Shape := ⟨2, ![1, 1]⟩
abbrev S1x8x512 : Shape := ⟨3, ![1, 8, 512]⟩
abbrev S1x2048x512 : Shape := ⟨3, ![1, 2048, 512]⟩
abbrev S512x1 : Shape := ⟨2, ![512, 1]⟩
abbrev S2048x512 : Shape := ⟨2, ![2048, 512]⟩
abbrev S32x512 : Shape := ⟨2, ![32, 512]⟩
abbrev S512x32 : Shape := ⟨2, ![512, 32]⟩
abbrev S512x512 : Shape := ⟨2, ![512, 512]⟩
abbrev S1x512 : Shape := ⟨2, ![1, 512]⟩
abbrev S512 : Shape := ⟨1, ![512]⟩
abbrev S1x512x32 : Shape := ⟨3, ![1, 512, 32]⟩
abbrev S1 : Shape := ⟨1, ![1]⟩
abbrev S1x1x1 : Shape := ⟨3, ![1, 1, 1]⟩

abbrev nBuf : Space → Nat
  | .hbm => 17
  | .vmem => 13
  | .smem => 0
  | _ => 0

abbrev bufTy : (tb : Table) → Fin (tcTables nBuf tb) → BufTy
  | .hbm, ⟨0, _⟩ => ⟨S8x2048x512, .f32⟩
  | .hbm, ⟨1, _⟩ => ⟨S32x2048, .f32⟩
  | .hbm, ⟨2, _⟩ => ⟨S32, .f32⟩
  | .hbm, ⟨3, _⟩ => ⟨S16384x32, .f32⟩
  | .hbm, ⟨4, _⟩ => ⟨S2048x32, .f32⟩
  | .hbm, ⟨5, _⟩ => ⟨S2048, .f32⟩
  | .hbm, ⟨6, _⟩ => ⟨S16384x32, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S32x1, .f32⟩
  | .hbm, ⟨11, _⟩ => ⟨S2048x1, .f32⟩
  | .hbm, ⟨12, _⟩ => ⟨S8x2048x512, .f32⟩
  | .hbm, ⟨13, _⟩ => ⟨S4096x1, .i32⟩
  | .hbm, ⟨14, _⟩ => ⟨S1x1, .f32⟩
  | .hbm, ⟨15, _⟩ => ⟨S1x8x512, .i32⟩
  | .hbm, ⟨16, _⟩ => ⟨S_, .f32⟩
  | .local _ .vmem, ⟨0, _⟩ => ⟨S1x2048x512, .f32⟩
  | .local _ .vmem, ⟨1, _⟩ => ⟨S1x2048x512, .f32⟩
  | .local _ .vmem, ⟨2, _⟩ => ⟨S32x2048, .f32⟩
  | .local _ .vmem, ⟨3, _⟩ => ⟨S32x1, .f32⟩
  | .local _ .vmem, ⟨4, _⟩ => ⟨S16384x32, .f32⟩
  | .local _ .vmem, ⟨5, _⟩ => ⟨S1x16384, .f32⟩
  | .local _ .vmem, ⟨6, _⟩ => ⟨S2048x32, .f32⟩
  | .local _ .vmem, ⟨7, _⟩ => ⟨S2048x1, .f32⟩
  | .local _ .vmem, ⟨8, _⟩ => ⟨S1x2048x512, .f32⟩
  | .local _ .vmem, ⟨9, _⟩ => ⟨S1x2048x512, .f32⟩
  | .local _ .vmem, ⟨10, _⟩ => ⟨S512x1, .i32⟩
  | .local _ .vmem, ⟨11, _⟩ => ⟨S512x1, .i32⟩
  | .local _ .vmem, ⟨12, _⟩ => ⟨S1x1, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0_0 : Ref sig .tc := ⟨.hbm, 12, rfl⟩
abbrev main_call0_v5_1 : Ref sig .tc := ⟨.hbm, 13, rfl⟩
abbrev main_call0_v5_2 : Ref sig .tc := ⟨.hbm, 14, rfl⟩
abbrev main_v0_1 : Ref sig .tc := ⟨.hbm, 15, rfl⟩
abbrev main_v0_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v899 : BitVec 1 := Scalar.cmpi .eq arg0 c0_i32
  let v900 : BitVec 32 := Scalar.extui v899
  let c0_i32_310 : BitVec 32 := 0#32
  let v901 : BitVec 1 := Scalar.cmpi .ne v900 c0_i32_310
  v901

def k0_cond2 (i : grid0.Coords) : BitVec 1 :=
  let arg0 : BitVec 32 := BitVec.ofNat 32 (i 0).val
  let c0_i32_311 : BitVec 32 := 0#32
  let v902 : BitVec 1 := Scalar.cmpi .sgt arg0 c0_i32_311
  let v903 : BitVec 32 := Scalar.extui v902
  let c0_i32_312 : BitVec 32 := 0#32
  let v904 : BitVec 1 := Scalar.cmpi .ne v903 c0_i32_312
  v904

def k0_cond3 (i : grid0.Coords) : BitVec 1 :=
  let arg0 : BitVec 32 := BitVec.ofNat 32 (i 0).val
  let c7_i32 : BitVec 32 := 7#32
  let v905 : BitVec 1 := Scalar.cmpi .eq arg0 c7_i32
  let v906 : BitVec 32 := Scalar.extui v905
  let c0_i32_313 : BitVec 32 := 0#32
  let v907 : BitVec 1 := Scalar.cmpi .ne v906 c0_i32_313
  v907

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16384x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "big" => some ⊤
  | _ => none
-- ==== ReferenceIdeal.lean ====
abbrev S8x2048x512 : Shape := ⟨3, ![8, 2048, 512]⟩
abbrev S32x2048 : Shape := ⟨2, ![32, 2048]⟩
abbrev S32 : Shape := ⟨1, ![32]⟩
abbrev S16384x32 : Shape := ⟨2, ![16384, 32]⟩
abbrev S2048x32 : Shape := ⟨2, ![2048, 32]⟩
abbrev S2048 : Shape := ⟨1, ![2048]⟩
abbrev S8x512x32 : Shape := ⟨3, ![8, 512, 32]⟩
abbrev S8x32x512 : Shape := ⟨3, ![8, 32, 512]⟩
abbrev S1x32x1 : Shape := ⟨3, ![1, 32, 1]⟩
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S32x16384 : Shape := ⟨2, ![32, 16384]⟩
abbrev S4096x16384 : Shape := ⟨2, ![4096, 16384]⟩
abbrev S16384 : Shape := ⟨1, ![16384]⟩
abbrev S1x16384 : Shape := ⟨2, ![1, 16384]⟩
abbrev S1 : Shape := ⟨1, ![1]⟩
abbrev S1x1 : Shape := ⟨2, ![1, 1]⟩
abbrev S8x512x2048 : Shape := ⟨3, ![8, 512, 2048]⟩
abbrev S1x2048x1 : Shape := ⟨3, ![1, 2048, 1]⟩
abbrev S1x8x512 : Shape := ⟨3, ![1, 8, 512]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S32x2048, .f32⟩
  | .hbm, ⟨2, _⟩ => ⟨S32, .f32⟩
  | .hbm, ⟨3, _⟩ => ⟨S16384x32, .f32⟩
  | .hbm, ⟨4, _⟩ => ⟨S2048x32, .f32⟩
  | .hbm, ⟨5, _⟩ => ⟨S2048, .f32⟩
  | .hbm, ⟨6, _⟩ => ⟨S8x512x32, .f32⟩
  | .hbm, ⟨7, _⟩ => ⟨S8x32x512, .f32⟩
  | .hbm, ⟨8, _⟩ => ⟨S1x32x1, .f32⟩
  | .hbm, ⟨9, _⟩ => ⟨S8x32x512, .f32⟩
  | .hbm, ⟨10, _⟩ => ⟨S8x32x512, .f32⟩
  | .hbm, ⟨11, _⟩ => ⟨S8x512x32, .f32⟩
  | .hbm, ⟨12, _⟩ => ⟨S4096x32, .f32⟩
  | .hbm, ⟨13, _⟩ => ⟨S4096x32, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S32x16384, .f32⟩
  | .hbm, ⟨18, _⟩ => ⟨S4096x16384, .f32⟩
  | .hbm, ⟨19, _⟩ => ⟨S_, .f32⟩
  | .hbm, ⟨20, _⟩ => ⟨S4096x16384, .f32⟩
  | .hbm, ⟨21, _⟩ => ⟨S4096x16384, .f32⟩
  | .hbm, ⟨22, _⟩ => ⟨S4096x16384, .f32⟩
  | .hbm, ⟨23, _⟩ => ⟨S4096x16384, .f32⟩
  | .hbm, ⟨24, _⟩ => ⟨S16384x32, .f32⟩
  | .hbm, ⟨25, _⟩ => ⟨S_, .f32⟩
  | .hbm, ⟨26, _⟩ => ⟨S16384, .f32⟩
  | .hbm, ⟨27, _⟩ => ⟨S1x16384, .f32⟩
  | .hbm, ⟨28, _⟩ => ⟨S4096x16384, .f32⟩
  | .hbm, ⟨29, _⟩ => ⟨S4096x16384, .f32⟩
  | .hbm, ⟨30, _⟩ => ⟨S4096x16384, .i32⟩
  | .hbm, ⟨31, _⟩ => ⟨S_, .f32⟩
  | .hbm, ⟨32, _⟩ => ⟨S_, .i32⟩
  | .hbm, ⟨33, _⟩ => ⟨S4096, .f32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S1, .i32⟩
  | .hbm, ⟨44, _⟩ => ⟨S_, .i32⟩
  | .hbm, ⟨45, _⟩ => ⟨S4096x1, .i32⟩
  | .hbm, ⟨46, _⟩ => ⟨S4096x1, .i1⟩
  | .hbm, ⟨47, _⟩ => ⟨S1x1, .i32⟩
  | .hbm, ⟨48, _⟩ => ⟨S4096x1, .i32⟩
  | .hbm, ⟨49, _⟩ => ⟨S4096x1, .i1⟩
  | .hbm, ⟨50, _⟩ => ⟨S4096x1, .i1⟩
  | .hbm, ⟨51, _⟩ => ⟨S_, .i1⟩
  | .hbm, ⟨52, _⟩ => ⟨S4096, .i1⟩
  | .hbm, ⟨53, _⟩ => ⟨S4096x32, .f32⟩
  | .hbm, ⟨54, _⟩ => ⟨S4096x32, .i1⟩
  | .hbm, ⟨55, _⟩ => ⟨S_, .f32⟩
  | .hbm, ⟨56, _⟩ => ⟨S4096x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096x32, .f32⟩
  | .hbm, ⟨67, _⟩ => ⟨S4096x32, .f32⟩
  | .hbm, ⟨68, _⟩ => ⟨S8x512x32, .f32⟩
  | .hbm, ⟨69, _⟩ => ⟨S8x32x512, .f32⟩
  | .hbm, ⟨70, _⟩ => ⟨S8x512x2048, .f32⟩
  | .hbm, ⟨71, _⟩ => ⟨S8x2048x512, .f32⟩
  | .hbm, ⟨72, _⟩ => ⟨S1x2048x1, .f32⟩
  | .hbm, ⟨73, _⟩ => ⟨S8x2048x512, .f32⟩
  | .hbm, ⟨74, _⟩ => ⟨S8x2048x512, .f32⟩
  | .hbm, ⟨75, _⟩ => ⟨S1x8x512, .i32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_cst : Ref sig .tc := ⟨.hbm, 31, rfl⟩
abbrev main_call0_c : Ref sig .tc := ⟨.hbm, 32, rfl⟩
abbrev main_call0_v1_0 : Ref sig .tc := ⟨.hbm, 33, rfl⟩
abbrev main_v21 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_2 : Ref sig .tc := ⟨.hbm, 60, rfl⟩
abbrev main_v25 : Ref sig .tc := ⟨.hbm, 61, rfl⟩
abbrev main_cst_3 : Ref sig .tc := ⟨.hbm, 62, rfl⟩
abbrev main_v26 : Ref sig .tc := ⟨.hbm, 63, rfl⟩
abbrev main_cst_4 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩

abbrev nD : Nat := 1
abbrev τ : Topo := Topo.v7x

variable {F : FTy → Type} [FloatOps F]
-- ==== Proof.Frames.lean ====
/- The frames of the two kernel programs and of the reference, and the meaning of the one named constant. -/
module

public import proofs.«01_k».proof.Defs
public import proofs.«01_k».proof.Proof.Gen.Kernel.Frame
public import proofs.«01_k».proof.Proof.Gen.KernelIdeal.Frame
public import proofs.«01_k».proof.Proof.Gen.ReferenceIdeal
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The reference leaves its six argument arrays as they were: no operation of it writes one. -/
theorem reference_unchanged
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, g⟩
      fun r => ∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)
        ∧ r.2.mem ((c.tc : Thread _ _).loc Cert.ReferenceIdeal.main_arg4) = m ((c.tc : Thread _ _).loc Cert.ReferenceIdeal.main_arg4)
        ∧ r.2.mem ((c.tc : Thread _ _).loc Cert.ReferenceIdeal.main_arg5) = m ((c.tc : Thread _ _).loc Cert.ReferenceIdeal.main_arg5) := by
  hlo_run

/-- The frame of the kernel as printed. -/
theorem frame_kernel : Cert.quiescent_Kernel := fun m g _ => Cert.Kernel.Gen.frame m g

/-- The frame of the kernel over the extended reals. -/
theorem frame_kernelIdeal : Cert.quiescent_KernelIdeal := fun m g _ => Cert.KernelIdeal.Gen.frame m g

/-- The frame of the reference: its arguments stay, and it has no semaphore. -/
theorem frame_reference : Cert.quiescent_ReferenceIdeal := fun m g _ =>
  θ_run_mono (reference_unchanged m g) fun r h =>
    ⟨h, sem_eq_zero_of_no_sems (by decide) r.2⟩

/-- The one rewrite of the kernel: the number `1e9` is named `big` and stands for `+∞`. -/
theorem preserves_kernel : Cert.preserves_Kernel_KernelIdeal :=
  IdealRules.named_const.statement Cert.KernelIdeal.κ "big" .f32 0x4E6E6B28#32 ⊤ rfl

end Cert.Proof

end
-- ==== Proof.KernelScan.lean ====
/- The kernel's body as a scan over the 32 tiles of the codebook: what one grid point stores, written
   as a recursion over the tiles, and the proof that the contents the run leaves are those. -/
module

public import proofs.«01_k».proof.Proof.Gen.KernelIdeal.Frame
public import Idealize.ShloMosaic.Lib.Pipeline.ValueKit

@[expose] public section

set_option maxRecDepth 16384

noncomputable section

namespace Cert.Proof

open Idealize.ShloMosaic Idealize.ShloMosaic.TcCoe Idealize.SL.Sem
open Cert.KernelIdeal Cert.KernelIdeal.Gen

variable {F : FTy → Type} [FloatOps F] [Named F]

/-- What the scan carries from tile to tile, for each of the 512 positions: the least score so far,
    its index (as a float) and the row of the codebook it belongs to. -/
structure Scan (F : FTy → Type) where
  mn : FVec F S512x1 .f32
  ix : FVec F S512x1 .f32
  zq : FVec F S512x32 .f32

/-- The projected input of one batch, transposed: position by code dimension. -/
def zBlk (x : Vec F S1x2048x512 .f32) (win : Vec F S32x2048 .f32) (bin : Vec F S32x1 .f32) :
    FVec F S512x32 .f32 :=
  transpose S512x32 [1, 0]
    (addf (matmul dot_S32x2048_S2048x512_S32x512_1_0_0_1_n_n none win
        (shapeCast S2048x512 x shapeCasts_S1x2048x512_S2048x512) (constant S32x512 .f32 0x00000000#32))
      (broadcastTo S32x512 (shapeCast S32x1 bin shapeCasts_S32x1_S32x1) broadcasts_S32x1_S32x512))
    transposes_S32x512_p1_0_S512x32

/-- The same times −2. -/
def zm2Blk (x : Vec F S1x2048x512 .f32) (win : Vec F S32x2048 .f32) (bin : Vec F S32x1 .f32) :
    FVec F S512x32 .f32 :=
  mulf (zBlk x win bin) (broadcast S512x32 (Scalar.ofBits .f32 0xC0000000#32))

/-- The column number as a float. -/
def colF : FVec F S512x512 .f32 :=
  sitofp .f32 (iota .tc S512x512 32 [1] iota_S512x512_d1_w32)

/-- The constant the running minimum starts at. -/
def bigF : F .f32 := Named.named κ "big" 0x4E6E6B28#32

/-- The scores of one tile of codes. -/
def tileScore (zm2 : FVec F S512x32 .f32) (cb : Vec F S512x32 .f32) (c2 : Vec F S1x512 .f32) :
    FVec F S512x512 .f32 :=
  addf (matmul dot_S512x32_S512x32_S512x512_1_1_0_0_n_n none zm2 cb (constant S512x512 .f32 0x00000000#32))
    (broadcastTo S512x512 (shapeCast S1x512 c2 shapeCasts_S1x512_S1x512) broadcasts_S1x512_S512x512)

/-- The least entry of each row, as a column. -/
def rowMin (d : FVec F S512x512 .f32) : FVec F S512x1 .f32 :=
  shapeCast S512x1 (multiReduction .minimumf [1] S512 d 0x7F800000#32 reduces_S512x512_S512 (.inl rfl) rfl)
    shapeCasts_S512_S512x1

/-- The first column of each row whose score equals the running minimum. -/
def tileArg (d : FVec F S512x512 .f32) (nm : FVec F S512x1 .f32) : FVec F S512x1 .f32 :=
  rowMin (select (cmpf .oeq d (broadcastTo S512x512 nm broadcasts_S512x1_S512x512)) colF
    (broadcast S512x512 bigF))

/-- The codebook rows at the given columns of a tile, by a product with a one-hot matrix. -/
def tileRow (a : FVec F S512x1 .f32) (cb : Vec F S512x32 .f32) : FVec F S512x32 .f32 :=
  matmul dot_S512x512_S512x32_S512x32_1_0_0_1_n_n none
    (sitofp .f32 (extui 32 (cmpf .oeq colF (broadcastTo S512x512 a broadcasts_S512x1_S512x512)) natLt_1_32))
    cb (constant S512x32 .f32 0x00000000#32)

/-- One tile's step: the scores `d` of the tile, the tile `cb`, its first code number `lo`. -/
def scanStep (d : FVec F S512x512 .f32) (cb : Vec F S512x32 .f32) (lo : F .f32) (s : Scan F) : Scan F where
  mn := select (cmpf .olt (rowMin d) s.mn) (rowMin d) s.mn
  ix := select (cmpf .olt (rowMin d) s.mn)
    (addf (tileArg d (select (cmpf .olt (rowMin d) s.mn) (rowMin d) s.mn)) (broadcast S512x1 lo)) s.ix
  zq := select (broadcastTo S512x32 (shapeCast S512x1 (cmpf .olt (rowMin d) s.mn) shapeCasts_S512x1_S512x1)
      broadcasts_S512x1_S512x32)
    (tileRow (tileArg d (select (cmpf .olt (rowMin d) s.mn) (rowMin d) s.mn)) cb) s.zq

/-- The scan before the first tile. -/
def scanInit : Scan F where
  mn := broadcast S512x1 bigF
  ix := broadcast S512x1 (Scalar.ofBits .f32 0x00000000#32)
  zq := broadcast S512x32 (Scalar.ofBits .f32 0x00000000#32)

/-- The rows of tile `j` are rows of the codebook. -/
theorem rows_inb (j : Fin 32) : ∀ a, (![512 * j.val, 0] : Fin 2 → Nat) a + S512x32.size a ≤ S16384x32.size a := by
  intro a; fin_cases a <;> simp [S512x32, S16384x32]; omega

/-- The columns of tile `j` are columns of the squared lengths. -/
theorem cols_inb (j : Fin 32) : ∀ a, (![0, 512 * j.val] : Fin 2 → Nat) a + S1x512.size a ≤ S1x16384.size a := by
  intro a; fin_cases a <;> simp [S1x512, S1x16384]; omega

/-- Tile `j` of the codebook: its rows `512 j … 512 j + 511`. -/
def cbTile (cb : Vec F S16384x32 .f32) (j : Fin 32) : Vec F S512x32 .f32 :=
  View.ld cb (Rect.unit (s := S16384x32) ![512 * j.val, 0] S512x32.size (rows_inb j))

/-- Tile `j` of the squared lengths. -/
def c2Tile (c2 : Vec F S1x16384 .f32) (j : Fin 32) : Vec F S1x512 .f32 :=
  View.ld c2 (Rect.unit (s := S1x16384) ![0, 512 * j.val] S1x512.size (cols_inb j))

/-- The f32 word of the number `512 j`, for `j < 32`: zero, or the exponent of `j` raised by 9 and the
    rest of `j` at the top of the fraction. -/
def loBits (j : ℕ) : BitVec 32 :=
  if j = 0 then 0#32
  else BitVec.ofNat 32 ((136 + Nat.log2 j) * 2 ^ 23 + (j - 2 ^ Nat.log2 j) * 2 ^ (23 - Nat.log2 j))

/-- The scan after the first `n` tiles. -/
def scan (zm2 : FVec F S512x32 .f32) (cb : Vec F S16384x32 .f32) (c2 : Vec F S1x16384 .f32) :
    (n : ℕ) → n ≤ 32 → Scan F
  | 0, _ => scanInit
  | n + 1, h =>
    scanStep (tileScore zm2 (cbTile cb ⟨n, h⟩) (c2Tile c2 ⟨n, h⟩)) (cbTile cb ⟨n, h⟩)
      (Scalar.ofBits .f32 (loBits n)) (scan zm2 cb c2 n (Nat.le_of_succ_le h))

/-- The scan over all tiles, at one batch's blocks. -/
def scanAll (x : Vec F S1x2048x512 .f32) (win : Vec F S32x2048 .f32) (bin : Vec F S32x1 .f32)
    (cb : Vec F S16384x32 .f32) (c2 : Vec F S1x16384 .f32) : Scan F :=
  scan (zm2Blk x win bin) cb c2 32 (Nat.le_refl 32)

/-- The output block: the chosen codes, projected out. -/
def outBlk (zq : FVec F S512x32 .f32) (wout : Vec F S2048x32 .f32) (bout : Vec F S2048x1 .f32) :
    Vec F S1x2048x512 .f32 :=
  shapeCast S1x2048x512
    (addf (matmul dot_S2048x32_S32x512_S2048x512_1_0_0_1_n_n none wout
        (transpose S32x512 [1, 0] zq transposes_S512x32_p1_0_S32x512) (constant S2048x512 .f32 0x00000000#32))
      (broadcastTo S2048x512 (shapeCast S2048x1 bout shapeCasts_S2048x1_S2048x1) broadcasts_S2048x1_S2048x512))
    shapeCasts_S2048x512_S1x2048x512

/-- The sum of the squared differences of one batch. -/
def lossPart (zq z : FVec F S512x32 .f32) : Vec F S1x1 .f32 :=
  broadcast S1x1 (extractAt ![0, 0, 0] (shapeCast S1x1x1
    (multiReduction .add [1, 2] S1 (shapeCast S1x512x32 (mulf (subf zq z) (subf zq z)) shapeCasts_S512x32_S1x512x32)
      0x00000000#32 reduces_S1x512x32_S1 (.inl rfl) rfl) shapeCasts_S1_S1x1x1) inpos_S1x1x1_p0_0_0)

variable (m : (ℓ : Loc nD τ sig) → Buf (Elt F) ℓ) (c : Dev nD)

/-- The scan of grid point `t`, at the blocks it reads. -/
def scanAt (t : Fin cfg0.N) : Scan F :=
  scanAll (iblk m c 0 t) (iblk m c 1 t) (iblk m c 2 t) (iblk m c 3 t) (iblk m c 4 t)

/-- The loss part of grid point `t`. -/
def partAt (t : Fin cfg0.N) : Vec F S1x1 .f32 :=
  lossPart (scanAt m c t).zq (zBlk (iblk m c 0 t) (iblk m c 1 t) (iblk m c 2 t))

/-- The point's place in the grid decides which of the body's three cases it runs. -/
theorem point_cases (t : Fin cfg0.N) :
    (t.val % 8 = 0 ∧ ¬1 ≤ t.val ∧ ¬t.val % 8 = 7) ∨ (¬t.val % 8 = 0 ∧ 1 ≤ t.val ∧ ¬t.val % 8 = 7) ∨
      (¬t.val % 8 = 0 ∧ 1 ≤ t.val ∧ t.val % 8 = 7) := by
  have h : t.val < 8 := lt_of_lt_of_eq t.isLt N_0
  omega

/-- Every point leaves its batch's output block. -/
theorem outs_out (t : Fin cfg0.N) :
    (outsAt0 m c t.val t.isLt).1 = outBlk (scanAt m c t).zq (iblk m c 5 t) (iblk m c 6 t) := by
  obtain ⟨h0, h1, h2⟩ | ⟨h0, h1, h2⟩ | ⟨h0, h1, h2⟩ := point_cases t
  · rw [outsAt0_A m c t h0 h1 h2]; dsimp only; frame_out; sl_kernel_rfl
  · rw [outsAt0_B m c t h0 h1 h2]; dsimp only; frame_out; sl_kernel_rfl
  · rw [outsAt0_C m c t h0 h1 h2]; dsimp only; frame_out; sl_kernel_rfl

/-- Every point leaves its batch's indices, as integers. -/
theorem outs_idx (t : Fin cfg0.N) :
    (outsAt0 m c t.val t.isLt).2.1 = fptosi 32 (scanAt m c t).ix := by
  obtain ⟨h0, h1, h2⟩ | ⟨h0, h1, h2⟩ | ⟨h0, h1, h2⟩ := point_cases t
  · rw [outsAt0_A m c t h0 h1 h2]; dsimp only; frame_out; sl_kernel_rfl
  · rw [outsAt0_B m c t h0 h1 h2]; dsimp only; frame_out; sl_kernel_rfl
  · rw [outsAt0_C m c t h0 h1 h2]; dsimp only; frame_out; sl_kernel_rfl

/-- The first point sets the loss to its part. -/
theorem outs_loss_first (t : Fin cfg0.N) (h0 : t.val % 8 = 0) (h1 : ¬1 ≤ t.val) (h2 : ¬t.val % 8 = 7) :
    (outsAt0 m c t.val t.isLt).2.2 = partAt m c t := by
  rw [outsAt0_A m c t h0 h1 h2]; dsimp only; frame_out; sl_kernel_rfl

/-- A middle point adds its part to what the point before left. -/
theorem outs_loss_mid (t : Fin cfg0.N) (h0 : ¬t.val % 8 = 0) (h1 : 1 ≤ t.val) (h2 : ¬t.val % 8 = 7) :
    (outsAt0 m c t.val t.isLt).2.2 = addf
      (shapeCast S1x1 (outsAt0 m c (t.val - 1) (Nat.lt_of_le_of_lt (Nat.sub_le _ _) t.isLt)).2.2 shapeCasts_S1x1_S1x1)
      (partAt m c t) := by
  rw [outsAt0_B m c t h0 h1 h2]; dsimp only; frame_out; sl_kernel_rfl

/-- The last point adds its part and scales. -/
theorem outs_loss_last (t : Fin cfg0.N) (h0 : ¬t.val % 8 = 0) (h1 : 1 ≤ t.val) (h2 : t.val % 8 = 7) :
    (outsAt0 m c t.val t.isLt).2.2 = mulf
      (shapeCast S1x1 (addf
        (shapeCast S1x1 (outsAt0 m c (t.val - 1) (Nat.lt_of_le_of_lt (Nat.sub_le _ _) t.isLt)).2.2 shapeCasts_S1x1_S1x1)
        (partAt m c t)) shapeCasts_S1x1_S1x1)
      (broadcast S1x1 (Scalar.ofBits .f32 0x36000000#32)) := by
  rw [outsAt0_C m c t h0 h1 h2]; dsimp only; frame_out; sl_kernel_rfl

end Cert.Proof
-- ==== Proof.KernelRead.lean ====
/- The parts of the kernel's scan read at one index, over the extended reals. -/
module

public import proofs.«01_k».proof.Proof.KernelScan
public import Idealize.ShloMosaic.Lib.Claim
public import Idealize.ShloMosaic.Lib.Pointwise

@[expose] public section

set_option maxRecDepth 16384

noncomputable section

namespace Cert.Proof

open Idealize.ShloMosaic Idealize.ShloMosaic.TcCoe Idealize.SL.Sem
open Cert.KernelIdeal Cert.KernelIdeal.Gen

/-- The word of +∞ is the top of the extended reals. -/
theorem word_top : Ideal.ofBits .f32 0x7F800000#32 = ⊤ := by
  simp [Ideal.ofBits, Ideal.ieee]

/-- The constant the running minimum starts at is the top of the extended reals. -/
theorem bigF_eq : (bigF (F := Ideal)) = (⊤ : EReal) := rfl

/-- The word of −2. -/
theorem word_neg_two : Ideal.ofBits .f32 0xC0000000#32 = ((-2 : ℝ) : EReal) := by
  simp [Ideal.ofBits, Ideal.ieee]
  norm_num
  rw [← EReal.coe_mul, EReal.coe_eq_coe_iff]
  norm_num

/-- The word of 1 / 524288. -/
theorem word_scale : Ideal.ofBits .f32 0x36000000#32 = ((1 / 524288 : ℝ) : EReal) := by
  simp [Ideal.ofBits, Ideal.ieee]
  norm_num
  rw [← EReal.coe_mul, EReal.coe_eq_coe_iff]
  norm_num

/-- The fields of the words of the first code numbers of the tiles: sign, exponent, fraction. -/
theorem lo_fields : ∀ j : Fin 32, j.val ≠ 0 →
    ((loBits j.val).extractLsb' 31 1 == 1#1) = false ∧
    ((loBits j.val).extractLsb' 23 8).toNat = 136 + Nat.log2 j.val ∧
    2 ^ 23 + ((loBits j.val).extractLsb' 0 23).toNat = j.val * 2 ^ (23 - Nat.log2 j.val) ∧
    Nat.log2 j.val ≤ 4 := by
  decide +kernel

/-- The words of the first code numbers of the tiles. -/
theorem word_lo (j : ℕ) (h : j < 32) : Ideal.ofBits .f32 (loBits j) = (((512 * j : ℕ) : ℝ) : EReal) := by
  by_cases h0 : j = 0
  · subst h0
    exact Ideal.ofBits_zero_f32.trans (by simp)
  · obtain ⟨hs, he, hf, hl⟩ := lo_fields ⟨j, h⟩ h0
    dsimp only at hs he hf hl
    show Ideal.ieee 8 23 (loBits j) = _
    unfold Ideal.ieee
    dsimp only
    rw [hs, he, hf, if_neg (by omega), if_neg (by omega), if_neg (by simp)]
    congr 1
    rw [Nat.cast_mul, Nat.cast_pow, one_mul, mul_assoc, Nat.cast_ofNat, ← zpow_natCast, ← zpow_add₀ (by norm_num)]
    have e : (((23 - Nat.log2 j : ℕ) : ℤ) + (((136 + Nat.log2 j : ℕ) : ℤ) - (2 ^ (8 - 1) - 1) - (23 : ℕ))) = 9 := by
      push_cast [Nat.cast_sub (show Nat.log2 j ≤ 23 by omega)]
      ring
    rw [e]
    push_cast
    norm_num
    ring

/-- A tile's score. -/
theorem tileScore_apply (zm2 : FVec Ideal S512x32 .f32) (cb : Vec Ideal S512x32 .f32) (c2 : Vec Ideal S1x512 .f32)
    (p q : Fin 512) : tileScore zm2 cb c2 (ix2 p q) = (∑ k : Fin 32, zm2 (ix2 p k) * cb (ix2 q k)) + c2 (ix2 0 q) := by
  pointwise [tileScore]

/-- The least entry of a row, as a fold. -/
theorem rowMin_apply (d : FVec Ideal S512x512 .f32) (p : Fin 512) :
    rowMin d (ix2 p 0) = Finset.univ.fold min ⊤ fun q : Fin 512 => d (ix2 p q) := by
  pointwise [rowMin, word_top]

/-- The column number. -/
theorem colF_apply (p q : Fin 512) : (colF (F := Ideal)) (ix2 p q) = ((q.val : ℝ) : EReal) := by
  pointwise [colF]
  show (((BitVec.ofNat 32 q.val).toInt : ℝ) : EReal) = _
  have hq : (BitVec.ofNat 32 q.val).toNat = q.val := by
    rw [BitVec.toNat_ofNat, Nat.mod_eq_of_lt (by omega)]
  rw [BitVec.toInt_eq_toNat_of_lt (by omega), hq]
  simp

/-- The first matching column, as a fold. -/
theorem tileArg_apply (d : FVec Ideal S512x512 .f32) (nm : FVec Ideal S512x1 .f32) (p : Fin 512) :
    tileArg d nm (ix2 p 0) = Finset.univ.fold min ⊤ fun q : Fin 512 =>
      if d (ix2 p q) = nm (ix2 p 0) then ((q.val : ℝ) : EReal) else ⊤ := by
  pointwise [tileArg, rowMin_apply, colF_apply, bigF_eq]

/-- The one-hot product, as a sum. -/
theorem tileRow_apply (a : FVec Ideal S512x1 .f32) (cb : Vec Ideal S512x32 .f32) (p : Fin 512) (k : Fin 32) :
    tileRow a cb (ix2 p k) = ∑ q : Fin 512, (if ((q.val : ℝ) : EReal) = a (ix2 p 0) then 1 else 0) * cb (ix2 q k) := by
  pointwise [tileRow, colF_apply]
  refine Finset.sum_congr rfl fun q _ => ?_
  congr 1
  show (((BitVec.setWidth 32 (BitVec.ofBool (decide _))).toInt : ℝ) : EReal) = _
  by_cases h : ((q.val : ℝ) : EReal) = a (ix2 p 0)
  · rw [if_pos h, decide_eq_true h]; simp
  · rw [if_neg h, decide_eq_false h]; simp

/-- The running minimum after one tile. -/
theorem step_mn (d : FVec Ideal S512x512 .f32) (cb : Vec Ideal S512x32 .f32) (lo : EReal) (s : Scan Ideal) (p : Fin 512) :
    (scanStep d cb lo s).mn (ix2 p 0) = if rowMin d (ix2 p 0) < s.mn (ix2 p 0) then rowMin d (ix2 p 0) else s.mn (ix2 p 0) := by
  pointwise [scanStep]

/-- The running index after one tile. -/
theorem step_ix (d : FVec Ideal S512x512 .f32) (cb : Vec Ideal S512x32 .f32) (lo : EReal) (s : Scan Ideal) (p : Fin 512) :
    (scanStep d cb lo s).ix (ix2 p 0) = if rowMin d (ix2 p 0) < s.mn (ix2 p 0) then
      tileArg d (scanStep d cb lo s).mn (ix2 p 0) + lo else s.ix (ix2 p 0) := by
  pointwise [scanStep]

/-- The running row after one tile. -/
theorem step_zq (d : FVec Ideal S512x512 .f32) (cb : Vec Ideal S512x32 .f32) (lo : EReal) (s : Scan Ideal) (p : Fin 512)
    (k : Fin 32) :
    (scanStep d cb lo s).zq (ix2 p k) = if rowMin d (ix2 p 0) < s.mn (ix2 p 0) then
      tileRow (tileArg d (scanStep d cb lo s).mn) cb (ix2 p k) else s.zq (ix2 p k) := by
  pointwise [scanStep]

/-- An entry of a codebook tile. -/
theorem cbTile_apply (cb : Vec Ideal S16384x32 .f32) (j : Fin 32) (q : Fin 512) (k : Fin 32) :
    cbTile cb j (ix2 q k) = cb (ix2 ⟨512 * j.val + q.val, by omega⟩ k) := by
  pointwise [cbTile]

/-- An entry of a tile of squared lengths. -/
theorem c2Tile_apply (c2 : Vec Ideal S1x16384 .f32) (j : Fin 32) (q : Fin 512) :
    c2Tile c2 j (ix2 0 q) = c2 (ix2 0 ⟨512 * j.val + q.val, by omega⟩) := by
  pointwise [c2Tile]

/-- An entry of the projected input. -/
theorem zBlk_apply (x : Vec Ideal S1x2048x512 .f32) (win : Vec Ideal S32x2048 .f32) (bin : Vec Ideal S32x1 .f32)
    (p : Fin 512) (k : Fin 32) :
    zBlk x win bin (ix2 p k) = (∑ e : Fin 2048, win (ix2 k e) * x (ix3 0 e p)) + bin (ix2 k 0) := by
  pointwise [zBlk]

/-- An entry of the projected input times −2. -/
theorem zm2Blk_apply (x : Vec Ideal S1x2048x512 .f32) (win : Vec Ideal S32x2048 .f32) (bin : Vec Ideal S32x1 .f32)
    (p : Fin 512) (k : Fin 32) :
    zm2Blk x win bin (ix2 p k) = zBlk x win bin (ix2 p k) * ((-2 : ℝ) : EReal) := by
  pointwise [zm2Blk, word_neg_two]

/-- An entry of the output block. -/
theorem outBlk_apply (zq : FVec Ideal S512x32 .f32) (wout : Vec Ideal S2048x32 .f32) (bout : Vec Ideal S2048x1 .f32)
    (e : Fin 2048) (p : Fin 512) :
    outBlk zq wout bout (ix3 0 e p) = (∑ k : Fin 32, wout (ix2 e k) * zq (ix2 p k)) + bout (ix2 e 0) := by
  pointwise [outBlk]

/-- The loss part of a batch, as a sum. -/
theorem lossPart_apply (zq z : FVec Ideal S512x32 .f32) :
    lossPart zq z (ix2 0 0) = ∑ p : Fin 512, ∑ k : Fin 32,
      (zq (ix2 p k) - z (ix2 p k)) * (zq (ix2 p k) - z (ix2 p k)) := by
  pointwise [lossPart]

end Cert.Proof
-- ==== Proof.FirstMin.lean ====
/- The first index at which a finite family of extended reals is least, and the kernel's scan: after
   `n` tiles it holds the first least score among the first `512 n` codes, its index and its code. -/
module

public import proofs.«01_k».proof.Proof.KernelRead

@[expose] public section

set_option maxRecDepth 16384

noncomputable section

namespace Cert.Proof

open Idealize.ShloMosaic Idealize.ShloMosaic.TcCoe Idealize.SL.Sem
open Cert.KernelIdeal Cert.KernelIdeal.Gen

/-- `a` is the first of the indices below `n` at which `f` is least. -/
def FirstMin {K : ℕ} (f : Fin K → EReal) (n : ℕ) (a : Fin K) : Prop :=
  a.val < n ∧ (∀ i : Fin K, i.val < n → f a ≤ f i) ∧ ∀ i : Fin K, i < a → f a < f i

/-- There is only one such index. -/
theorem FirstMin.unique {K : ℕ} {f : Fin K → EReal} {n : ℕ} {a b : Fin K} (ha : FirstMin f n a)
    (hb : FirstMin f n b) : a = b := by
  rcases lt_trichotomy a b with h | h | h
  · exact absurd (hb.2.2 a h) (not_lt.mpr (ha.2.1 b hb.1))
  · exact h
  · exact absurd (ha.2.2 b h) (not_lt.mpr (hb.2.1 a ha.1))

/-- There is one. -/
theorem exists_firstMin {K : ℕ} [NeZero K] (f : Fin K → EReal) : ∃ a, FirstMin f K a := by
  obtain ⟨a, -, ha⟩ := Finset.exists_min_image (Finset.univ : Finset (Fin K))
    (fun i => toLex (f i, i)) ⟨0, Finset.mem_univ 0⟩
  have key : ∀ i, f a < f i ∨ f a = f i ∧ a ≤ i := fun i =>
    Prod.Lex.toLex_le_toLex.mp (ha i (Finset.mem_univ i))
  refine ⟨a, a.isLt, fun i _ => ?_, fun i hi => ?_⟩
  · exact (key i).elim le_of_lt fun h => h.1.le
  · exact (key i).resolve_right fun h => absurd h.2 (not_le.mpr hi)

/-- A fold of `min` from the top is the entry that is least. -/
theorem fold_min_eq {K : ℕ} (g : Fin K → EReal) (a : Fin K) (h : ∀ i, g a ≤ g i) :
    Finset.univ.fold min ⊤ g = g a := by
  apply le_antisymm
  · exact (Finset.fold_min_le _).mpr (Or.inr ⟨a, Finset.mem_univ a, le_rfl⟩)
  · exact (Finset.le_fold_min _).mpr ⟨le_top, fun i _ => h i⟩

/-- The least entry of a row. -/
theorem rowMin_of_first (d : FVec Ideal S512x512 .f32) (p q0 : Fin 512)
    (h : FirstMin (fun q => d (ix2 p q)) 512 q0) : rowMin d (ix2 p 0) = d (ix2 p q0) := by
  rw [rowMin_apply]
  exact fold_min_eq (fun q => d (ix2 p q)) q0 fun i => h.2.1 i i.isLt

/-- The first column whose score equals the least one. -/
theorem tileArg_of_first (d : FVec Ideal S512x512 .f32) (nm : FVec Ideal S512x1 .f32) (p q0 : Fin 512)
    (h : FirstMin (fun q => d (ix2 p q)) 512 q0) (hnm : nm (ix2 p 0) = d (ix2 p q0)) :
    tileArg d nm (ix2 p 0) = ((q0.val : ℝ) : EReal) := by
  rw [tileArg_apply, fold_min_eq _ q0, if_pos hnm.symm]
  intro i
  rw [if_pos hnm.symm]
  split
  · rename_i hi
    have : ¬ i < q0 := fun hlt => absurd (h.2.2 i hlt) (not_lt.mpr (hi.trans hnm).le)
    exact EReal.coe_le_coe_iff.mpr (Nat.cast_le.mpr (Fin.le_def.mp (not_lt.mp this)))
  · exact le_top

/-- The one-hot product picks the row at the given column. -/
theorem tileRow_of_col (a : FVec Ideal S512x1 .f32) (cb : Vec Ideal S512x32 .f32) (p q0 : Fin 512) (k : Fin 32)
    (h : a (ix2 p 0) = ((q0.val : ℝ) : EReal)) : tileRow a cb (ix2 p k) = cb (ix2 q0 k) := by
  rw [tileRow_apply, Finset.sum_eq_single q0]
  · rw [h, if_pos rfl, one_mul]
  · intro b _ hb
    rw [h, if_neg, zero_mul]
    rw [EReal.coe_eq_coe_iff, Nat.cast_inj]
    exact fun e => hb (Fin.ext e)
  · exact fun hn => absurd (Finset.mem_univ q0) hn

/-- Code `512 n + q`. -/
abbrev codeAt (n : ℕ) (h : n < 32) (q : Fin 512) : Fin 16384 := ⟨512 * n + q.val, by omega⟩

/-- A code below `512 (n + 1)` is below `512 n` or one of tile `n`. -/
theorem code_cases (n : ℕ) (h : n < 32) (i : Fin 16384) (hi : i.val < 512 * (n + 1)) :
    i.val < 512 * n ∨ ∃ q : Fin 512, i = codeAt n h q := by
  by_cases hlt : i.val < 512 * n
  · exact Or.inl hlt
  · exact Or.inr ⟨⟨i.val - 512 * n, by omega⟩, Fin.ext (by dsimp only; omega)⟩

/-- What the scan holds at position `p` after `n` tiles. -/
def ScanInv (f : Fin 16384 → EReal) (cb : Vec Ideal S16384x32 .f32) (p : Fin 512) (n : ℕ) (s : Scan Ideal) : Prop :=
  (n = 0 ∧ s.mn (ix2 p 0) = ⊤) ∨
    ∃ a : Fin 16384, FirstMin f (512 * n) a ∧ s.mn (ix2 p 0) = f a ∧ s.ix (ix2 p 0) = ((a.val : ℝ) : EReal) ∧
      ∀ k : Fin 32, s.zq (ix2 p k) = cb (ix2 a k)

/-- A tile whose least score is below every earlier one gives the new first least code. -/
theorem first_new (f : Fin 16384 → EReal) (n : ℕ) (h : n < 32) (q0 : Fin 512)
    (hq : FirstMin (fun q => f (codeAt n h q)) 512 q0)
    (hlt : ∀ i : Fin 16384, i.val < 512 * n → f (codeAt n h q0) < f i) :
    FirstMin f (512 * (n + 1)) (codeAt n h q0) := by
  refine ⟨by dsimp only; omega, fun i hi => ?_, fun i hi => ?_⟩
  · obtain hi | ⟨q, rfl⟩ := code_cases n h i hi
    · exact (hlt i hi).le
    · exact hq.2.1 q q.isLt
  · have hv : i.val < 512 * n + q0.val := Fin.lt_def.mp hi
    obtain hi' | ⟨q, rfl⟩ := code_cases n h i (by omega)
    · exact hlt i hi'
    · exact hq.2.2 q (Fin.lt_def.mpr (by dsimp only at hv; omega))

/-- A tile none of whose scores is below the least so far leaves the first least code. -/
theorem first_old (f : Fin 16384 → EReal) (n : ℕ) (h : n < 32) (a : Fin 16384) (ha : FirstMin f (512 * n) a)
    (hle : ∀ q : Fin 512, f a ≤ f (codeAt n h q)) : FirstMin f (512 * (n + 1)) a := by
  refine ⟨by have := ha.1; omega, fun i hi => ?_, ha.2.2⟩
  obtain hi | ⟨q, rfl⟩ := code_cases n h i hi
  · exact ha.2.1 i hi
  · exact hle q

/-- One tile keeps the invariant. -/
theorem scanStep_inv (f : Fin 16384 → EReal) (hf : ∀ i, f i ≠ ⊤) (cb : Vec Ideal S16384x32 .f32) (p : Fin 512)
    (n : ℕ) (h : n < 32) (d : FVec Ideal S512x512 .f32) (hd : ∀ q, d (ix2 p q) = f (codeAt n h q))
    (s : Scan Ideal) (hs : ScanInv f cb p n s) :
    ScanInv f cb p (n + 1) (scanStep d (cbTile cb ⟨n, h⟩) (Ideal.ofBits .f32 (loBits n)) s) := by
  obtain ⟨q0, hq0⟩ := exists_firstMin (fun q : Fin 512 => d (ix2 p q))
  have hmin := rowMin_of_first d p q0 hq0
  have hq : FirstMin (fun q => f (codeAt n h q)) 512 q0 := by simpa only [hd] using hq0
  by_cases hlt : rowMin d (ix2 p 0) < s.mn (ix2 p 0)
  · refine Or.inr ⟨codeAt n h q0, first_new f n h q0 hq fun i hi => ?_, ?_, ?_, fun k => ?_⟩
    · obtain ⟨rfl, -⟩ | ⟨a, ha, hmn, -⟩ := hs
      · omega
      · rw [hmin, hd, hmn] at hlt
        exact lt_of_lt_of_le hlt (ha.2.1 i hi)
    · rw [step_mn, if_pos hlt, hmin, hd]
    · rw [step_ix, if_pos hlt, tileArg_of_first d _ p q0 hq0 (by rw [step_mn, if_pos hlt, hmin]), word_lo n h,
        ← EReal.coe_add, EReal.coe_eq_coe_iff]
      push_cast
      ring
    · rw [step_zq, if_pos hlt, tileRow_of_col _ _ p q0 k
        (tileArg_of_first d _ p q0 hq0 (by rw [step_mn, if_pos hlt, hmin])), cbTile_apply]
  · obtain ⟨rfl, htop⟩ | ⟨a, ha, hmn, hix, hzq⟩ := hs
    · rw [htop, hmin, hd] at hlt
      exact absurd (lt_top_iff_ne_top.mpr (hf _)) hlt
    · refine Or.inr ⟨a, first_old f n h a ha fun q => ?_, ?_, ?_, fun k => ?_⟩
      · rw [hmn, hmin] at hlt
        exact (not_lt.mp hlt).trans ((hq0.2.1 q q.isLt).trans_eq (hd q))
      · rw [step_mn, if_neg hlt, hmn]
      · rw [step_ix, if_neg hlt, hix]
      · rw [step_zq, if_neg hlt, hzq k]

/-- The kernel's score of code `i` at position `p`. -/
def score (zm2 : FVec Ideal S512x32 .f32) (cb : Vec Ideal S16384x32 .f32) (c2 : Vec Ideal S1x16384 .f32)
    (p : Fin 512) (i : Fin 16384) : EReal :=
  (∑ k : Fin 32, zm2 (ix2 p k) * cb (ix2 i k)) + c2 (ix2 0 i)

/-- A tile's score is the score of its code. -/
theorem tileScore_eq_score (zm2 : FVec Ideal S512x32 .f32) (cb : Vec Ideal S16384x32 .f32) (c2 : Vec Ideal S1x16384 .f32)
    (p : Fin 512) (n : ℕ) (h : n < 32) (q : Fin 512) :
    tileScore zm2 (cbTile cb ⟨n, h⟩) (c2Tile c2 ⟨n, h⟩) (ix2 p q) = score zm2 cb c2 p (codeAt n h q) := by
  rw [tileScore_apply, c2Tile_apply]
  simp only [cbTile_apply, score]

/-- The invariant holds after any number of tiles. -/
theorem scan_inv (zm2 : FVec Ideal S512x32 .f32) (cb : Vec Ideal S16384x32 .f32) (c2 : Vec Ideal S1x16384 .f32)
    (p : Fin 512) (hf : ∀ i, score zm2 cb c2 p i ≠ ⊤) (n : ℕ) (h : n ≤ 32) :
    ScanInv (score zm2 cb c2 p) cb p n (scan zm2 cb c2 n h) := by
  induction n with
  | zero => exact Or.inl ⟨rfl, rfl⟩
  | succ n ih =>
    exact scanStep_inv _ hf cb p n h _ (tileScore_eq_score zm2 cb c2 p n h) _ (ih (Nat.le_of_succ_le h))

/-- What the whole scan holds, when no score is the top: the first least code, as a float and as a row. -/
theorem scan_result (zm2 : FVec Ideal S512x32 .f32) (cb : Vec Ideal S16384x32 .f32) (c2 : Vec Ideal S1x16384 .f32)
    (p : Fin 512) (hf : ∀ i, score zm2 cb c2 p i ≠ ⊤) (a : Fin 16384)
    (ha : FirstMin (score zm2 cb c2 p) 16384 a) :
    (scan zm2 cb c2 32 (Nat.le_refl 32)).ix (ix2 p 0) = ((a.val : ℝ) : EReal) ∧
      ∀ k : Fin 32, (scan zm2 cb c2 32 (Nat.le_refl 32)).zq (ix2 p k) = cb (ix2 a k) := by
  obtain ⟨h, -⟩ | ⟨b, hb, -, hix, hzq⟩ := scan_inv zm2 cb c2 p hf 32 (Nat.le_refl 32)
  · omega
  · obtain rfl := hb.unique ha
    exact ⟨hix, hzq⟩

end Cert.Proof
-- ==== Proof.Spec.lean ====
/- What both programs compute, over the extended reals: the projected input, the first nearest code of
   each position, the output, the indices and the loss; and the facts about real numbers that let
   squared distances and the kernel's scores stand for each other. -/
module

public import proofs.«01_k».proof.Proof.FirstMin

@[expose] public section

set_option maxRecDepth 16384

noncomputable section

namespace Cert.Proof

open Idealize.ShloMosaic Idealize.ShloMosaic.TcCoe Idealize.SL.Sem

local notation "XT" => FVec Ideal (⟨3, ![8, 2048, 512]⟩ : Shape) FTy.f32
local notation "WinT" => FVec Ideal (⟨2, ![32, 2048]⟩ : Shape) FTy.f32
local notation "BinT" => FVec Ideal (⟨1, ![32]⟩ : Shape) FTy.f32
local notation "CbT" => FVec Ideal (⟨2, ![16384, 32]⟩ : Shape) FTy.f32
local notation "WoutT" => FVec Ideal (⟨2, ![2048, 32]⟩ : Shape) FTy.f32
local notation "BoutT" => FVec Ideal (⟨1, ![2048]⟩ : Shape) FTy.f32

/-- The number is neither infinity. -/
def IsReal (x : EReal) : Prop := ∃ r : ℝ, x = (r : EReal)

/-- A sum of reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A difference of reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A product of reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers, taken in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

/-- A real is not infinite. -/
theorem IsReal.ne_top {x : EReal} (h : IsReal x) : x ≠ ⊤ := by
  obtain ⟨a, rfl⟩ := h
  exact EReal.coe_ne_top a

/-- The straight-through estimator changes nothing: `z + (q − z) = q` for real numbers. -/
theorem add_sub_self {z q : EReal} (hz : IsReal z) (hq : IsReal q) : z + (q - z) = q := by
  obtain ⟨a, rfl⟩ := hz
  obtain ⟨b, rfl⟩ := hq
  rw [← EReal.coe_sub, ← EReal.coe_add, add_sub_cancel]

/-- The projected input at batch `b`, position `p`, code dimension `k`. -/
def zVal (x : XT) (win : WinT) (bin : BinT) (b : Fin 8) (p : Fin 512) (k : Fin 32) : EReal :=
  (∑ e : Fin 2048, win (ix2 k e) * x (ix3 b e p)) + bin (ix1 k)

/-- The projected input is real where its arguments are. -/
theorem zVal_real {x : XT} {win : WinT} {bin : BinT} (hx : ∀ i, IsReal (x i)) (hw : ∀ i, IsReal (win i))
    (hb : ∀ i, IsReal (bin i)) (b : Fin 8) (p : Fin 512) (k : Fin 32) : IsReal (zVal x win bin b p k) :=
  (IsReal.sum _ _ fun _ => (hw _).mul (hx _)).add (hb _)

/-- The entries that decide the scores are real. -/
structure RealArgs (x : XT) (win : WinT) (bin : BinT) (cb : CbT) : Prop where
  x : ∀ i, IsReal (x i)
  win : ∀ i, IsReal (win i)
  bin : ∀ i, IsReal (bin i)
  cb : ∀ i, IsReal (cb i)

/-- The kernel's score of code `i` for the vector `z`: the squared distance less `z`'s squared length. -/
def codeScore (z : Fin 32 → EReal) (cb : CbT) (i : Fin 16384) : EReal :=
  (∑ k : Fin 32, z k * ((-2 : ℝ) : EReal) * cb (ix2 i k)) + ∑ k : Fin 32, cb (ix2 i k) * cb (ix2 i k)

/-- The reference's squared distance, as it computes it. -/
def codeDist (z : Fin 32 → EReal) (cb : CbT) (i : Fin 16384) : EReal :=
  (∑ k : Fin 32, z k * z k) - ((2 : ℝ) : EReal) * (∑ k : Fin 32, z k * cb (ix2 i k)) +
    ∑ k : Fin 32, cb (ix2 i k) * cb (ix2 i k)

/-- For real entries both are real, and the distance is the score plus one constant. -/
theorem dist_eq_score (z : Fin 32 → EReal) (cb : CbT) (hz : ∀ k, IsReal (z k)) (hc : ∀ i, IsReal (cb i)) :
    ∃ (f : Fin 16384 → ℝ) (r : ℝ), (∀ i, codeScore z cb i = (f i : EReal)) ∧
      ∀ i, codeDist z cb i = ((f i + r : ℝ) : EReal) := by
  choose zr hzr using hz
  choose cr hcr using hc
  refine ⟨fun i => (∑ k : Fin 32, zr k * (-2) * cr (ix2 i k)) + ∑ k : Fin 32, cr (ix2 i k) * cr (ix2 i k),
    ∑ k : Fin 32, zr k * zr k, fun i => ?_, fun i => ?_⟩
  · simp only [codeScore, hzr, hcr, ← EReal.coe_mul, coe_sum, ← EReal.coe_add]
  · simp only [codeDist, hzr, hcr, ← EReal.coe_mul, coe_sum, ← EReal.coe_add, ← EReal.coe_sub, EReal.coe_eq_coe_iff]
    have e : ∑ k : Fin 32, zr k * (-2) * cr (ix2 i k) = -(2 * ∑ k : Fin 32, zr k * cr (ix2 i k)) := by
      rw [Finset.mul_sum, ← Finset.sum_neg_distrib]
      exact Finset.sum_congr rfl fun k _ => by ring
    rw [e]
    ring

/-- No score is infinite. -/
theorem codeScore_ne_top (z : Fin 32 → EReal) (cb : CbT) (hz : ∀ k, IsReal (z k)) (hc : ∀ i, IsReal (cb i))
    (i : Fin 16384) : codeScore z cb i ≠ ⊤ := by
  obtain ⟨f, r, hs, -⟩ := dist_eq_score z cb hz hc
  rw [hs i]
  exact EReal.coe_ne_top _

/-- A distance is not the top either. -/
theorem codeDist_ne_top (z : Fin 32 → EReal) (cb : CbT) (hz : ∀ k, IsReal (z k)) (hc : ∀ i, IsReal (cb i))
    (i : Fin 16384) : codeDist z cb i ≠ ⊤ := by
  obtain ⟨f, r, -, hd⟩ := dist_eq_score z cb hz hc
  rw [hd i]
  exact EReal.coe_ne_top _

/-- The first nearest code. -/
def nearest (z : Fin 32 → EReal) (cb : CbT) : Fin 16384 := Classical.choose (exists_firstMin (codeScore z cb))

/-- The nearest code is the first of least score. -/
theorem nearest_score (z : Fin 32 → EReal) (cb : CbT) : FirstMin (codeScore z cb) 16384 (nearest z cb) :=
  Classical.choose_spec (exists_firstMin (codeScore z cb))

/-- It is also the first code of least squared distance. -/
theorem nearest_dist (z : Fin 32 → EReal) (cb : CbT) (hz : ∀ k, IsReal (z k)) (hc : ∀ i, IsReal (cb i)) :
    FirstMin (codeDist z cb) 16384 (nearest z cb) := by
  obtain ⟨f, r, hs, hd⟩ := dist_eq_score z cb hz hc
  have h := nearest_score z cb
  simp only [FirstMin, hs, EReal.coe_le_coe_iff, EReal.coe_lt_coe_iff] at h
  simp only [FirstMin, hd, EReal.coe_le_coe_iff, EReal.coe_lt_coe_iff]
  exact ⟨h.1, fun i hi => by have := h.2.1 i hi; linarith, fun i hi => by have := h.2.2 i hi; linarith⟩

/-- The code chosen at batch `b`, position `p`. -/
def codeOf (x : XT) (win : WinT) (bin : BinT) (cb : CbT) (b : Fin 8) (p : Fin 512) : Fin 16384 :=
  nearest (zVal x win bin b p) cb

/-- The squared differences of batch `b`, summed. -/
def lossOf (x : XT) (win : WinT) (bin : BinT) (cb : CbT) (b : Fin 8) : EReal :=
  ∑ p : Fin 512, ∑ k : Fin 32, (cb (ix2 (codeOf x win bin cb b p) k) - zVal x win bin b p k) *
    (cb (ix2 (codeOf x win bin cb b p) k) - zVal x win bin b p k)

/-- The loss of a batch is real where the arguments are. -/
theorem lossOf_real {x : XT} {win : WinT} {bin : BinT} {cb : CbT} (hx : ∀ i, IsReal (x i)) (hw : ∀ i, IsReal (win i))
    (hb : ∀ i, IsReal (bin i)) (hc : ∀ i, IsReal (cb i)) (b : Fin 8) : IsReal (lossOf x win bin cb b) :=
  IsReal.sum _ _ fun _ => IsReal.sum _ _ fun _ =>
    ((hc _).sub (zVal_real hx hw hb _ _ _)).mul ((hc _).sub (zVal_real hx hw hb _ _ _))

/-- The first result: the chosen codes, projected out. -/
def outSpec (x : XT) (win : WinT) (bin : BinT) (cb : CbT) (wout : WoutT) (bout : BoutT) : XT := fun j =>
  (∑ k : Fin 32, wout (ix2 (j 1) k) * cb (ix2 (codeOf x win bin cb (j 0) (j 2)) k)) + bout (ix1 (j 1))

/-- The second result: the chosen codes' numbers. -/
def idxSpec (x : XT) (win : WinT) (bin : BinT) (cb : CbT) : IVec (⟨3, ![1, 8, 512]⟩ : Shape) 32 := fun j =>
  BitVec.ofNat 32 (codeOf x win bin cb (j 1) (j 2)).val

/-- The third result: a quarter of the mean squared difference. -/
def lossSpec (x : XT) (win : WinT) (bin : BinT) (cb : CbT) : FVec Ideal (⟨0, ![]⟩ : Shape) FTy.f32 := fun _ =>
  (∑ b : Fin 8, lossOf x win bin cb b) * ((1 / 524288 : ℝ) : EReal)

end Cert.Proof
-- ==== Proof.KernelBlocks.lean ====
/- The kernel's input blocks, entry by entry, as entries of the arguments. -/
module

public import proofs.«01_k».proof.Proof.FirstMin
public import proofs.«01_k».proof.Proof.Spec

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Where the blocks lie: the input window moves with the batch, the others stay. -/
theorem at_x : ∀ t : Fin cfg0.N, win0_0.index t = ![t.val, 0, 0] := (by decide +kernel : ∀ t : Fin grid0.N, _)
/-- Every step reads the whole of the first projection. -/
theorem at_win : ∀ t : Fin cfg0.N, win0_1.index t = ![0, 0] := (by decide +kernel : ∀ t : Fin grid0.N, _)
/-- Every step reads the whole of its bias. -/
theorem at_bin : ∀ t : Fin cfg0.N, win0_2.index t = ![0, 0] := (by decide +kernel : ∀ t : Fin grid0.N, _)
/-- Every step reads the whole codebook. -/
theorem at_cb : ∀ t : Fin cfg0.N, win0_3.index t = ![0, 0] := (by decide +kernel : ∀ t : Fin grid0.N, _)
/-- Every step reads the squared lengths of all codes. -/
theorem at_c2 : ∀ t : Fin cfg0.N, win0_4.index t = ![0, 0] := (by decide +kernel : ∀ t : Fin grid0.N, _)
/-- Every step reads the whole of the second projection. -/
theorem at_wout : ∀ t : Fin cfg0.N, win0_5.index t = ![0, 0] := (by decide +kernel : ∀ t : Fin grid0.N, _)
/-- Every step reads the whole of its bias. -/
theorem at_bout : ∀ t : Fin cfg0.N, win0_6.index t = ![0, 0] := (by decide +kernel : ∀ t : Fin grid0.N, _)

/-- Batch `t` of the input. -/
theorem blk_x (t : Fin cfg0.N) (b : Fin 8) (hb : b.val = t.val) (e : Fin 2048) (p : Fin 512) :
    iblk m c 0 t (ix3 0 e p) = m (c.tc.loc main_arg0) (ix3 b e p) := by
  blk_ext [iblk, V, at_x]

/-- The input projection's weights. -/
theorem blk_win (t : Fin cfg0.N) (k : Fin 32) (e : Fin 2048) :
    iblk m c 1 t (ix2 k e) = m (c.tc.loc main_arg1) (ix2 k e) := by
  blk_ext [iblk, V, at_win]

/-- The bias as the host lays it out, a column. -/
theorem V_bin : V m c main_call0_v3 = shapeCast S32x1 (m (c.tc.loc main_arg2)) shapeCasts_S32_S32x1 := by
  show StableHlo.after hostOps0 _ _ = _
  after_results
  rfl

/-- The codes' squared lengths as the host computes them, a row. -/
theorem V_c2 (cb : FVec Ideal S16384x32 .f32) (hcb : cb = m (c.tc.loc main_arg3)) :
    V m c main_call0_v2 = (broadcastInDim S1x16384 ![1] bcast_S16384_S1x16384_1
      (Host.reduceAdd (mulf cb cb) (constant S_ .f32 0x00000000#32) reducesTo_S16384x32_S16384_d1 h_S_ :
        FVec Ideal S16384 .f32) : FVec Ideal S1x16384 .f32) := by
  subst hcb
  show StableHlo.after hostOps0 _ _ = _
  after_results
  rfl

/-- The output bias as the host lays it out, a column. -/
theorem V_bout : V m c main_call0_v4 = shapeCast S2048x1 (m (c.tc.loc main_arg5)) shapeCasts_S2048_S2048x1 := by
  show StableHlo.after hostOps0 _ _ = _
  after_results
  rfl

/-- Its bias, a column. -/
theorem blk_bin (t : Fin cfg0.N) (k : Fin 32) :
    iblk m c 2 t (ix2 k 0) = m (c.tc.loc main_arg2) (ix1 k) := by
  blk_simp [iblk]
  rw [V_bin]
  pointwise
  blk_ext [at_bin]

/-- The codebook. -/
theorem blk_cb (t : Fin cfg0.N) (i : Fin 16384) (k : Fin 32) :
    iblk m c 3 t (ix2 i k) = m (c.tc.loc main_arg3) (ix2 i k) := by
  blk_ext [iblk, V, at_cb]

/-- The codes' squared lengths. -/
theorem blk_c2 (t : Fin cfg0.N) (i : Fin 16384) (cb : FVec Ideal (⟨2, ![16384, 32]⟩ : Shape) FTy.f32)
    (hcb : cb = m (c.tc.loc main_arg3)) :
    iblk m c 4 t (ix2 0 i) = (∑ k : Fin 32, cb (ix2 i k) * cb (ix2 i k) : EReal) := by
  blk_simp [iblk]
  rw [V_c2 m c cb hcb]
  pointwise
  have e : ((win0_4.blk t).view.emb (ix2 0 i) : S1x16384.Idx) 1 = i := by
    apply Fin.ext
    blk_simp [at_c2]
  exact congrArg (fun a : Fin 16384 => (∑ k : Fin 32, cb (ix2 a k) * cb (ix2 a k) : EReal)) e

/-- The output projection's weights. -/
theorem blk_wout (t : Fin cfg0.N) (e : Fin 2048) (k : Fin 32) :
    iblk m c 5 t (ix2 e k) = m (c.tc.loc main_arg4) (ix2 e k) := by
  blk_ext [iblk, V, at_wout]

/-- Its bias, a column. -/
theorem blk_bout (t : Fin cfg0.N) (e : Fin 2048) :
    iblk m c 6 t (ix2 e 0) = m (c.tc.loc main_arg5) (ix1 e) := by
  blk_simp [iblk]
  rw [V_bout]
  pointwise
  blk_ext [at_bout]

/-- The six arguments on device `c`. -/
structure Reads (x : FVec Ideal (⟨3, ![8, 2048, 512]⟩ : Shape) FTy.f32) (win : FVec Ideal (⟨2, ![32, 2048]⟩ : Shape) FTy.f32)
    (bin : FVec Ideal (⟨1, ![32]⟩ : Shape) FTy.f32) (cb : FVec Ideal (⟨2, ![16384, 32]⟩ : Shape) FTy.f32)
    (wout : FVec Ideal (⟨2, ![2048, 32]⟩ : Shape) FTy.f32) (bout : FVec Ideal (⟨1, ![2048]⟩ : Shape) FTy.f32) : Prop where
  x : m (c.tc.loc main_arg0) = x
  win : m (c.tc.loc main_arg1) = win
  bin : m (c.tc.loc main_arg2) = bin
  cb : m (c.tc.loc main_arg3) = cb
  wout : m (c.tc.loc main_arg4) = wout
  bout : m (c.tc.loc main_arg5) = bout

section Point

variable {x : FVec Ideal (⟨3, ![8, 2048, 512]⟩ : Shape) FTy.f32} {win : FVec Ideal (⟨2, ![32, 2048]⟩ : Shape) FTy.f32}
  {bin : FVec Ideal (⟨1, ![32]⟩ : Shape) FTy.f32} {cb : FVec Ideal (⟨2, ![16384, 32]⟩ : Shape) FTy.f32}
  {wout : FVec Ideal (⟨2, ![2048, 32]⟩ : Shape) FTy.f32} {bout : FVec Ideal (⟨1, ![2048]⟩ : Shape) FTy.f32}
  (h : Reads m c x win bin cb wout bout) (hr : RealArgs x win bin cb) (t : Fin cfg0.N) (b : Fin 8) (hb : b.val = t.val)

include h hb

/-- The projected input of batch `b`. -/
theorem z_at (p : Fin 512) (k : Fin 32) :
    zBlk (iblk m c 0 t) (iblk m c 1 t) (iblk m c 2 t) (ix2 p k) = zVal x win bin b p k := by
  rw [zBlk_apply, zVal, blk_bin, h.bin]
  refine congrArg (· + bin (ix1 k)) (Finset.sum_congr rfl fun e _ => ?_)
  rw [blk_win, h.win, blk_x m c t b hb, h.x]

/-- The scores of batch `b`. -/
theorem score_at (p : Fin 512) (i : Fin 16384) :
    score (zm2Blk (iblk m c 0 t) (iblk m c 1 t) (iblk m c 2 t)) (iblk m c 3 t) (iblk m c 4 t) p i =
      codeScore (zVal x win bin b p) cb i := by
  rw [score, codeScore, blk_c2 m c t i cb h.cb.symm]
  refine congrArg (· + (∑ k : Fin 32, cb (ix2 i k) * cb (ix2 i k))) (Finset.sum_congr rfl fun k _ => ?_)
  rw [zm2Blk_apply, z_at m c h t b hb, blk_cb, h.cb]

include hr

/-- The scan leaves the chosen code's number and row. -/
theorem scan_at (p : Fin 512) :
    (scanAt m c t).ix (ix2 p 0) = (((codeOf x win bin cb b p).val : ℝ) : EReal) ∧
      ∀ k : Fin 32, (scanAt m c t).zq (ix2 p k) = cb (ix2 (codeOf x win bin cb b p) k) := by
  have hs := score_at m c h t b hb p
  have := scan_result (zm2Blk (iblk m c 0 t) (iblk m c 1 t) (iblk m c 2 t)) (iblk m c 3 t) (iblk m c 4 t) p
    (fun i => by rw [hs]; exact codeScore_ne_top _ _ (zVal_real hr.x hr.win hr.bin b p) hr.cb i)
    (codeOf x win bin cb b p) (by rw [funext hs]; exact nearest_score _ _)
  refine ⟨this.1, fun k => (this.2 k).trans ?_⟩
  rw [blk_cb, h.cb]

/-- The output block of batch `b`. -/
theorem out_at (e : Fin 2048) (p : Fin 512) :
    outBlk (scanAt m c t).zq (iblk m c 5 t) (iblk m c 6 t) (ix3 0 e p) = outSpec x win bin cb wout bout (ix3 b e p) := by
  rw [outBlk_apply, blk_bout, h.bout]
  refine congrArg (· + bout (ix1 e)) (Finset.sum_congr rfl fun k _ => ?_)
  rw [blk_wout, h.wout, (scan_at m c h hr t b hb p).2 k]
  rfl

/-- The summed squared differences of batch `b`. -/
theorem part_at : partAt m c t (ix2 0 0) = lossOf x win bin cb b := by
  rw [partAt, lossPart_apply, lossOf]
  refine Finset.sum_congr rfl fun p _ => Finset.sum_congr rfl fun k _ => ?_
  rw [(scan_at m c h hr t b hb p).2 k, z_at m c h t b hb]

end Point

end Cert.Proof
-- ==== Proof.KernelRun.lean ====
/- The kernel's run over the extended reals: its three results are the specified ones. -/
module

public import proofs.«01_k».proof.Proof.KernelBlocks
public import Idealize.ShloMosaic.Lib.Claim

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Step `t` writes batch `t` of the output. -/
theorem at_out : ∀ t : Fin cfg0.N, win0_7.index t = ![t.val, 0, 0] := (by decide +kernel : ∀ t : Fin grid0.N, _)
/-- Step `t` writes the `t`-th block of the indices. -/
theorem at_idx : ∀ t : Fin cfg0.N, win0_8.index t = ![t.val, 0] := (by decide +kernel : ∀ t : Fin grid0.N, _)

/-- The kernel's ten arrays are distinct. -/
theorem arrays_distinct : Function.Injective (Pipeline.arrRef (cfgs 0).spec) := by
  decide +kernel

/-- A code's number, converted to a 32-bit word. -/
theorem toWord (a : Fin 16384) : FloatOps.fptosi (F := Ideal) (φ := FTy.f32) 32 (((a.val : ℝ) : EReal)) = BitVec.ofNat 32 a.val := by
  have ha := a.isLt
  show Ideal.fptosi 32 _ = _
  rw [Ideal.fptosi, Ideal.toIntClamped_coe, if_pos (Nat.cast_nonneg a.val)]
  simp only [Int.floor_natCast]
  rw [max_eq_right, min_eq_right]
  · rfl
  · omega
  · omega

variable {x : FVec Ideal (⟨3, ![8, 2048, 512]⟩ : Shape) FTy.f32} {win : FVec Ideal (⟨2, ![32, 2048]⟩ : Shape) FTy.f32}
  {bin : FVec Ideal (⟨1, ![32]⟩ : Shape) FTy.f32} {cb : FVec Ideal (⟨2, ![16384, 32]⟩ : Shape) FTy.f32}
  {wout : FVec Ideal (⟨2, ![2048, 32]⟩ : Shape) FTy.f32} {bout : FVec Ideal (⟨1, ![2048]⟩ : Shape) FTy.f32}
  (h : Reads m c x win bin cb wout bout) (hr : RealArgs x win bin cb)

include h hr

/-- The output array: every batch's block. -/
theorem array_out : (dats m 0 c).arrAt 7 cfg0.N = outSpec x win bin cb wout bout := by
  refine (dats m 0 c).arrAt_eq_of_covers 7 _ (by decide +kernel) fun t hf y => ?_
  blk_simp
  rw [after0_7, outs_out]
  have ht : t.val < 8 := lt_of_lt_of_eq t.isLt N_0
  have hy : y = (ix3 0 (y 1) (y 2) : S1x2048x512.Idx) := by blk_ext
  have he : (win0_7.blk t).view.emb y = (ix3 ⟨t.val, ht⟩ (y 1) (y 2) : S8x2048x512.Idx) := by blk_ext [at_out]
  rw [he]
  refine (congrArg _ hy).trans ?_
  exact out_at m c h hr t ⟨t.val, ht⟩ rfl (y 1) (y 2)

/-- The array of code numbers, one row per position of every batch. -/
theorem array_idx : (dats m 0 c).arrAt 8 cfg0.N =
    fun j : S4096x1.Idx => BitVec.ofNat 32 (codeOf x win bin cb ⟨(j 0).val / 512, by idx_bounds j; omega⟩ ⟨(j 0).val % 512, by omega⟩).val := by
  refine (dats m 0 c).arrAt_eq_of_covers 8 _ (by decide +kernel) fun t hf y => ?_
  blk_simp
  rw [after0_8, outs_idx]
  have ht : t.val < 8 := lt_of_lt_of_eq t.isLt N_0
  have hy : y = (ix2 (y 0) 0 : S512x1.Idx) := by blk_ext
  have h0 : (y 0).val < 512 := by idx_bounds y; omega
  have e0 : win0_8.index t 0 = t.val := by rw [at_idx]; rfl
  have hs : fptosi 32 (scanAt m c t).ix (ix2 (y 0) 0) = BitVec.ofNat 32 (codeOf x win bin cb ⟨t.val, ht⟩ ⟨(y 0).val, h0⟩).val := by
    exact (congrArg (FloatOps.fptosi (F := Ideal) (φ := FTy.f32) 32)
      (scan_at m c h hr t ⟨t.val, ht⟩ rfl ⟨(y 0).val, h0⟩).1).trans (toWord _)
  refine (congrArg _ hy).trans (hs.trans ?_)
  congr 3
  · apply Fin.ext; show t.val = (win0_8.index t 0 * 512 + (y 0).val) / 512; omega
  · apply Fin.ext; show (y 0).val = (win0_8.index t 0 * 512 + (y 0).val) % 512; omega

/-- The summed squared differences of the `i`-th batch, nothing beyond the last. -/
def lossNat (x : FVec Ideal (⟨3, ![8, 2048, 512]⟩ : Shape) FTy.f32) (win : FVec Ideal (⟨2, ![32, 2048]⟩ : Shape) FTy.f32)
    (bin : FVec Ideal (⟨1, ![32]⟩ : Shape) FTy.f32) (cb : FVec Ideal (⟨2, ![16384, 32]⟩ : Shape) FTy.f32) (i : ℕ) : EReal :=
  if hi : i < 8 then lossOf x win bin cb ⟨i, hi⟩ else 0

/-- The part that step `t` adds to the loss is the one of batch `t`. -/
theorem part_nat (t : Fin cfg0.N) : partAt m c t (ix2 0 0) = lossNat x win bin cb t.val := by
  have ht : t.val < 8 := lt_of_lt_of_eq t.isLt N_0
  rw [lossNat, dif_pos ht, part_at m c h hr t ⟨t.val, ht⟩ rfl]

/-- Before the last batch the loss block holds the parts so far. -/
theorem loss_upto (n : ℕ) (hn : n < 7) (hN : n < cfg0.N) :
    (outsAt0 m c n hN).2.2 (ix2 0 0) = ∑ i ∈ Finset.range (n + 1), lossNat x win bin cb i := by
  induction n with
  | zero =>
    rw [outs_loss_first m c ⟨0, hN⟩ (by rfl) (by simp) (by simp), part_nat m c h hr, Finset.sum_range_one]
  | succ n ih =>
    have h0 : ¬(n + 1) % 8 = 0 := by omega
    rw [outs_loss_mid m c ⟨n + 1, hN⟩ h0 (by simp) (by show ¬(n + 1) % 8 = 7; omega), Finset.sum_range_succ, ← ih (by omega) (by omega),
      ← part_nat m c h hr ⟨n + 1, hN⟩]
    pointwise
    rfl

/-- The loss array: all the parts, scaled. -/
theorem array_loss : (dats m 0 c).arrAt 9 cfg0.N =
    fun j : S1x1.Idx => (∑ b : Fin 8, lossOf x win bin cb b) * ((1 / 524288 : ℝ) : EReal) := by
  refine (dats m 0 c).arrAt_eq_of_after_last 9 t0_7 (by decide +kernel) _ fun j => ?_
  blk_simp
  rw [after0_9]
  have hj : j = (ix2 0 0 : S1x1.Idx) := by blk_ext
  have e : ∑ b : Fin 8, lossOf x win bin cb b = ∑ i ∈ Finset.range 8, lossNat x win bin cb i := by
    rw [Finset.sum_range]
    exact Finset.sum_congr rfl fun b _ => by rw [lossNat, dif_pos b.isLt]
  rw [e, Finset.sum_range_succ, ← loss_upto m c h hr 6 (by omega) (by decide +kernel), ← word_scale]
  rw [hj, outs_loss_last m c t0_7 (by decide +kernel) (by decide +kernel) (by decide +kernel)]
  have hp := part_nat m c h hr t0_7
  pointwise
  rw [hp]
  rfl

/-- The second result: the code numbers, one row per batch. -/
theorem tail_idx : Pipeline.afterTail₀ cfgs (dats m) 0 (V0 m) [hostOps1] c main_v0_1 = idxSpec x win bin cb := by
  show StableHlo.after hostOps1 _ _ = _
  after_results
  have w8 := Pipeline.withArrays_arr (cfgs 0).spec arrays_distinct c (V0 m c) (fun w => (dats m 0 c).arrAt w (cfgs 0).N) 8
  refine Eq.trans (congrArg (fun a : IVec S4096x1 32 => shapeCast S1x8x512 a shapeCasts_S4096x1_S1x8x512)
    (w8.trans (array_idx m c h hr))) ?_
  funext j
  pointwise [idxSpec]
  idx_bounds j
  congr 3 <;> apply Fin.ext
  · show ((j 1).val * 512 + (j 2).val) / 512 = (j 1).val
    omega
  · show ((j 1).val * 512 + (j 2).val) % 512 = (j 2).val
    omega

/-- The third result: the loss. -/
theorem tail_loss : Pipeline.afterTail₀ cfgs (dats m) 0 (V0 m) [hostOps1] c main_v0_2 = lossSpec x win bin cb := by
  show StableHlo.after hostOps1 _ _ = _
  after_results
  have w9 := Pipeline.withArrays_arr (cfgs 0).spec arrays_distinct c (V0 m c) (fun w => (dats m 0 c).arrAt w (cfgs 0).N) 9
  exact congrArg (fun a : FVec Ideal S1x1 .f32 => shapeCast S_ a shapeCasts_S1x1_S_) (w9.trans (array_loss m c h hr))

omit h hr

/-- The specified results of the arguments on device `c`. -/
def outAt : FVec Ideal S8x2048x512 .f32 :=
  outSpec (m (c.tc.loc main_arg0)) (m (c.tc.loc main_arg1)) (m (c.tc.loc main_arg2)) (m (c.tc.loc main_arg3))
    (m (c.tc.loc main_arg4)) (m (c.tc.loc main_arg5))
/-- The specified indices of the arguments on device `c`. -/
def idxAt : IVec S1x8x512 32 :=
  idxSpec (m (c.tc.loc main_arg0)) (m (c.tc.loc main_arg1)) (m (c.tc.loc main_arg2)) (m (c.tc.loc main_arg3))
/-- The specified loss of the arguments on device `c`. -/
def lossAt : FVec Ideal S_ .f32 :=
  lossSpec (m (c.tc.loc main_arg0)) (m (c.tc.loc main_arg1)) (m (c.tc.loc main_arg2)) (m (c.tc.loc main_arg3))

/-- The kernel ends with the specified results, its arguments as they were. -/
theorem kernel_run (g : Dev nD → PrngReg) (hreal : ∀ c : Dev nD, RealArgs (m (c.tc.loc main_arg0)) (m (c.tc.loc main_arg1))
      (m (c.tc.loc main_arg2)) (m (c.tc.loc main_arg3))) :
    θ_run (defs (F := Ideal)) (onTc (τ := τ) (main (F := Ideal))) ⟨m, fun _ => 0, g⟩ (fun r => ∀ c : Dev nD,
      r.2.mem (c.tc.loc main_v0_0) = outAt m c
      ∧ r.2.mem (c.tc.loc main_v0_1) = idxAt m c
      ∧ r.2.mem (c.tc.loc main_v0_2) = lossAt m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) := by
  run_from Gen.run_main m g & Gen.unchanged m g
  · exact array_out m c ⟨rfl, rfl, rfl, rfl, rfl, rfl⟩ (hreal c)
  · exact tail_idx m c ⟨rfl, rfl, rfl, rfl, rfl, rfl⟩ (hreal c)
  · exact tail_loss m c ⟨rfl, rfl, rfl, rfl, rfl, rfl⟩ (hreal c)

end Cert.Proof
-- ==== Proof.Finite.lean ====
/- What the precondition says of an argument: each entry of the four arrays is a real number. -/
module

public import proofs.«01_k».proof.Proof.Spec
public import proofs.«01_k».proof.Defs
public import proofs.«01_k».proof.Proof.Gen.Pre_finite_inputs

@[expose] public section

set_option maxRecDepth 16384

noncomputable section

namespace Cert.Proof

open Idealize.ShloMosaic Idealize.ShloMosaic.TcCoe Idealize.SL.Sem
open Cert.Pre_finite_inputs

/-- An extended real whose absolute value is below the top is real. -/
theorem isReal_of_abs_lt {a : EReal}
    (h : BitVec.ofBool (decide (FloatOps.absf (F := Ideal) (φ := FTy.f32) a < Ideal.ofBits FTy.f32 0x7F800000#32)) = 1#1) :
    IsReal a := by
  have ht : Ideal.ofBits FTy.f32 0x7F800000#32 = ⊤ := by simp [Ideal.ofBits, Ideal.ieee]
  rw [ht] at h
  have hlt : FloatOps.absf (F := Ideal) (φ := FTy.f32) a < ⊤ := by
    by_contra hn
    rw [decide_eq_false hn] at h
    exact absurd h (by decide)
  rw [Ideal.absf_def] at hlt
  induction a using EReal.rec with
  | bot => simp at hlt
  | top => simp at hlt
  | coe r => exact ⟨r, rfl⟩

/-- A conjunction of bits is one only if both are. -/
theorem andi_one : ∀ a b : BitVec 1, IntOp.andi a b = 1#1 → a = 1#1 ∧ b = 1#1 := by decide

/-- A conjunction over a finite set is one only if every bit is. -/
theorem fold_andi_one {ι : Type} (s : Finset ι) (f : ι → BitVec 1) (h : Finset.fold IntOp.andi (1#1) f s = 1#1) :
    ∀ i ∈ s, f i = 1#1 := by
  classical
  induction s using Finset.induction_on with
  | empty => exact fun i hi => absurd hi (Finset.notMem_empty i)
  | insert a s ha ih =>
    rw [Finset.fold_insert ha] at h
    obtain ⟨h1, h2⟩ := andi_one _ _ h
    intro i hi
    obtain rfl | hi := Finset.mem_insert.mp hi
    · exact h1
    · exact ih h2 i hi

/-- The same over a whole finite type. -/
theorem fold_univ_one {ι : Type} [Fintype ι] (f : ι → BitVec 1) (h : Finset.fold IntOp.andi (1#1) f Finset.univ = 1#1)
    (i : ι) : f i = 1#1 := fold_andi_one _ f h i (Finset.mem_univ i)

/-- Under the precondition the entries of the input, of its projection and of the codebook are real. -/
theorem real_args (m : (ℓ : Loc Cert.KernelIdeal.nD Cert.KernelIdeal.τ Cert.KernelIdeal.sig) → Buf (Elt Ideal) ℓ)
    (h : Cert.Pre_KernelIdeal_finite_inputs m) (c : Dev Cert.KernelIdeal.nD) :
    RealArgs (m (c.tc.loc Cert.KernelIdeal.main_arg0)) (m (c.tc.loc Cert.KernelIdeal.main_arg1))
      (m (c.tc.loc Cert.KernelIdeal.main_arg2)) (m (c.tc.loc Cert.KernelIdeal.main_arg3)) := by
  have h0 := congrFun (h c) (fun a => a.elim0)
  simp only [Cert.Pre_finite_inputs.fn, Cert.Pre_finite_inputs.fn_part1] at h0
  pointwise at h0
  obtain ⟨h0, h4⟩ := andi_one _ _ h0
  obtain ⟨h0, h3⟩ := andi_one _ _ h0
  obtain ⟨h1, h2⟩ := andi_one _ _ h0
  refine ⟨fun i => ?_, fun i => ?_, fun i => ?_, fun i => ?_⟩
  · rw [eq_ix3 i]
    exact isReal_of_abs_lt (fold_univ_one _ h1 (i 0, i 1, i 2))
  · rw [eq_ix2 i]
    exact isReal_of_abs_lt (fold_univ_one _ h2 (i 0, i 1))
  · rw [eq_ix1 i]
    exact isReal_of_abs_lt (fold_univ_one _ h3 (i 0))
  · rw [eq_ix2 i]
    exact isReal_of_abs_lt (fold_univ_one _ h4 (i 0, i 1))

end Cert.Proof
-- ==== Proof.RefRead.lean ====
/- The reference over the extended reals, as a handful of stages, each read at an index. -/
module

public import proofs.«01_k».proof.Proof.Spec
public import proofs.«01_k».proof.Proof.Gen.ReferenceIdeal
public import Idealize.ShloMosaic.Lib.Routing.Ops

@[expose] public section

set_option maxRecDepth 16384

noncomputable section

namespace Cert.Proof

open Idealize.ShloMosaic Idealize.ShloMosaic.TcCoe Idealize.SL.Sem
open Cert.ReferenceIdeal Cert.ReferenceIdeal.Gen

/-- The projected input, one row per position of every batch. -/
def refZ (x : FVec Ideal S8x2048x512 .f32) (win : FVec Ideal S32x2048 .f32) (bin : FVec Ideal S32 .f32) : FVec Ideal S4096x32 .f32 :=
  shapeCast S4096x32 (transpose S8x512x32 [0, 2, 1] (addf
    (transpose S8x32x512 [0, 2, 1] (Host.dotGeneral dot_S8x2048x512_S32x2048_S8x512x32_1_1_02_0_n_n none x win : FVec Ideal S8x512x32 .f32)
      transposes_S8x512x32_S8x32x512_0_2_1)
    (broadcastInDim S8x32x512 ![0, 1, 2] bcast_S1x32x1_S8x32x512_0_1_2 (broadcastInDim S1x32x1 ![1] bcast_S32_S1x32x1_1 bin)))
    transposes_S8x32x512_S8x512x32_0_2_1) shapeCasts_S8x512x32_S4096x32

/-- The squared distances of every row to every code. -/
def refDist (z : FVec Ideal S4096x32 .f32) (cb : FVec Ideal S16384x32 .f32) : FVec Ideal S4096x16384 .f32 :=
  addf (subf
    (broadcastInDim S4096x16384 ![0, 1] bcast_S4096x1_S4096x16384_0_1 (broadcastInDim S4096x1 ![0] bcast_S4096_S4096x1_0
      (Host.reduceAdd (mulf z z) (constant S_ .f32 0x00000000#32) reducesTo_S4096x32_S4096_d1 h_S_ : FVec Ideal S4096 .f32)))
    (mulf (broadcastInDim S4096x16384 ![] bcast_S_S4096x16384 (constant S_ .f32 0x40000000#32))
      (Host.dotGeneral dot_S4096x32_S32x16384_S4096x16384_1_0_0_1_n_n none z
        (transpose S32x16384 [1, 0] cb transposes_S16384x32_S32x16384_1_0) : FVec Ideal S4096x16384 .f32)))
    (broadcastInDim S4096x16384 ![0, 1] bcast_S1x16384_S4096x16384_0_1 (broadcastInDim S1x16384 ![1] bcast_S16384_S1x16384_1
      (Host.reduceAdd (mulf cb cb) (constant S_ .f32 0x00000000#32) reducesTo_S16384x32_S16384_d1 h_S_ : FVec Ideal S16384 .f32)))

/-- The second half of the reference's arg-min, for any shape. -/
def pickIdx {s t u : Shape} {axes : List (Fin s.rank)} (h : s.ReducesTo axes t) (hu : 0 < u.numel) (x : FVec Ideal s .f32)
    (y : s.Idx → BitVec 32) (x₀ : FVec Ideal u .f32) (y₀ : u.Idx → BitVec 32) : t.Idx → BitVec 32 := fun j =>
  (Host.argReduce reducer_argmin_f32_i32 x y x₀ y₀ h hu j).2

/-- The index of the nearest code, from the distances. -/
def refIdx (d : FVec Ideal S4096x16384 .f32) : IVec S4096 32 :=
  pickIdx reducesTo_S4096x16384_S4096_d1 h_S_ d (iotaInDim S4096x16384 32 1) (constant S_ .f32 0x7F800000#32 : FVec Ideal S_ .f32)
    (constantI S_ 32 0#32)

/-- The indices as the look-up reads them: a column, a negative one counted from the end. -/
def refCol (idx : IVec S4096 32) : IVec S4096x1 32 :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 16384#32))) idx)

/-- Which rows of the look-up are in bounds. -/
def refIn (col : IVec S4096x1 32) : IVec S4096 1 :=
  Host.reduce IntOp.andi
    (andi (cmpi .sge col (broadcastInDim S4096x1 ![] bcast_S_S4096x1 (constantI S_ 32 0#32)))
      (cmpi .sle col (broadcastInDim S4096x1 ![0, 1] bcast_S1x1_S4096x1_0_1 (broadcastInDim S1x1 ![1] bcast_S1_S1x1_1 (constantI S1 32 16383#32)))))
    (constantI S_ 1 1#1) reducesTo_S4096x1_S4096_d1 h_S_

/-- The codes looked up. -/
def refTake (cb : FVec Ideal S16384x32 .f32) (idx : IVec S4096 32) : FVec Ideal S4096x32 .f32 :=
  select (broadcastInDim S4096x32 ![0] bcast_S4096_S4096x32_0 (refIn (refCol idx)))
    (Host.gather gather_S16384x32_S4096x1_S4096x32_1_0_n_n_0_1_132 cb (refCol idx))
    (broadcastInDim S4096x32 ![] bcast_S_S4096x32 (constant S_ .f32 0x7FC00000#32))

/-- The loss: a quarter of the mean squared difference. -/
def refLoss (z q : FVec Ideal S4096x32 .f32) : FVec Ideal S_ .f32 :=
  mulf (constant S_ .f32 0x3E800000#32)
    (Host.divf (Host.reduceAdd (mulf (subf q z) (subf q z)) (constant S_ .f32 0x00000000#32) reducesTo_S4096x32_S_d0_1 h_S_ : FVec Ideal S_ .f32)
      (constant S_ .f32 0x48000000#32))

/-- The output: the straight-through codes, projected. -/
def refOut (z q : FVec Ideal S4096x32 .f32) (wout : FVec Ideal S2048x32 .f32) (bout : FVec Ideal S2048 .f32) : FVec Ideal S8x2048x512 .f32 :=
  addf (transpose S8x2048x512 [0, 2, 1] (Host.dotGeneral dot_S8x32x512_S2048x32_S8x512x2048_1_1_02_0_n_n none
      (transpose S8x32x512 [0, 2, 1] (shapeCast S8x512x32 (addf z (subf q z)) shapeCasts_S4096x32_S8x512x32) transposes_S8x512x32_S8x32x512_0_2_1)
      wout : FVec Ideal S8x512x2048 .f32) transposes_S8x512x2048_S8x2048x512_0_2_1)
    (broadcastInDim S8x2048x512 ![0, 1, 2] bcast_S1x2048x1_S8x2048x512_0_1_2 (broadcastInDim S1x2048x1 ![1] bcast_S2048_S1x2048x1_1 bout))

/-- The batch of row `r`. -/
def rowBatch (r : Fin 4096) : Fin 8 := ⟨r.val / 512, by omega⟩

/-- The position of row `r` in its batch. -/
def rowPos (r : Fin 4096) : Fin 512 := ⟨r.val % 512, by omega⟩

/-- The row of a position of a batch. -/
def rowOf (b : Fin 8) (p : Fin 512) : Fin 4096 := ⟨b.val * 512 + p.val, by omega⟩

/-- The batch of a position's row is the position's. -/
theorem rowBatch_rowOf (b : Fin 8) (p : Fin 512) : rowBatch (rowOf b p) = b := by
  apply Fin.ext
  show (b.val * 512 + p.val) / 512 = b.val
  omega

/-- The place of a position's row in its batch is the position. -/
theorem rowPos_rowOf (b : Fin 8) (p : Fin 512) : rowPos (rowOf b p) = p := by
  apply Fin.ext
  show (b.val * 512 + p.val) % 512 = p.val
  omega

/-- The row holds the projected input of its position. -/
theorem refZ_apply (x : FVec Ideal S8x2048x512 .f32) (win : FVec Ideal S32x2048 .f32) (bin : FVec Ideal S32 .f32)
    (r : Fin 4096) (k : Fin 32) : refZ x win bin (ix2 r k) = zVal x win bin (rowBatch r) (rowPos r) k := by
  delta refZ
  pointwise
  rw [zVal]
  exact congrArg (· + bin (ix1 k)) (Finset.sum_congr rfl fun e _ => mul_comm _ _)

/-- The word of `2.0`. -/
theorem word_two : Ideal.ofBits FTy.f32 0x40000000#32 = ((2 : ℝ) : EReal) := by
  simp [Ideal.ofBits, Ideal.ieee]
  norm_num
  rw [← EReal.coe_mul, EReal.coe_eq_coe_iff]
  norm_num

/-- Row `r`, column `i` of the distances. -/
theorem refDist_apply (z : FVec Ideal S4096x32 .f32) (cb : FVec Ideal S16384x32 .f32) (r : Fin 4096) (i : Fin 16384) :
    refDist z cb (ix2 r i) = codeDist (fun k => z (ix2 r k)) cb i := by
  delta refDist
  pointwise
  rw [word_two]
  rfl

/-- A row number below 16384 is in bounds, and read as it is. -/
theorem col_of_small : ∀ a : Fin 16384,
    Scalar.select (IntOp.cmpi CmpIPredicate.slt (BitVec.ofNat 32 a.val) 0#32) (IntOp.addi (BitVec.ofNat 32 a.val) 16384#32)
      (BitVec.ofNat 32 a.val) = BitVec.ofNat 32 a.val ∧
    IntOp.andi (IntOp.cmpi CmpIPredicate.sge (BitVec.ofNat 32 a.val) 0#32)
      (IntOp.cmpi CmpIPredicate.sle (BitVec.ofNat 32 a.val) 16383#32) = 1#1 := by
  intro a
  have ha := a.isLt
  have hi : (BitVec.ofNat 32 a.val).toInt = (a.val : ℤ) := by
    rw [BitVec.toInt_eq_toNat_of_lt (by rw [BitVec.toNat_ofNat, Nat.mod_eq_of_lt (by omega)]; omega), BitVec.toNat_ofNat,
      Nat.mod_eq_of_lt (by omega)]
  have h1 : (BitVec.ofNat 32 a.val).slt 0#32 = false := by rw [BitVec.slt_eq_decide, hi]; simp
  have h2 : (0#32).sle (BitVec.ofNat 32 a.val) = true := by rw [BitVec.sle_eq_decide, hi]; simp
  have h3 : (BitVec.ofNat 32 a.val).sle 16383#32 = true := by
    rw [BitVec.sle_eq_decide, hi]
    exact decide_eq_true (by show (a.val : ℤ) ≤ 16383; omega)
  constructor
  · simp [IntOp.cmpi, Scalar.select, h1]
  · simp [IntOp.cmpi, IntOp.andi, h2, h3]

/-- The look-up of row `r` reads the code its index names. -/
theorem refTake_apply (cb : FVec Ideal S16384x32 .f32) (idx : IVec S4096 32) (r : Fin 4096) (a : Fin 16384)
    (ha : idx (ix1 r) = BitVec.ofNat 32 a.val) (k : Fin 32) : refTake cb idx (ix2 r k) = cb (ix2 a k) := by
  have hc : refCol idx (ix2 r 0) = BitVec.ofNat 32 a.val := by
    delta refCol
    pointwise
    rw [ha]
    exact (col_of_small a).1
  have hin : refIn (refCol idx) (ix1 r) = 1#1 := by
    delta refIn
    pointwise
    rw [Finset.univ_unique, Finset.fold_singleton, Fin.default_eq_zero, hc, (col_of_small a).2]
    rfl
  have hg := Routing.gather_row gather_S16384x32_S4096x1_S4096x32_1_0_n_n_0_1_132 rfl rfl rfl rfl rfl cb (refCol idx) r k a hc (by norm_num)
  delta refTake
  pointwise
  rw [hin]
  exact hg

/-- A quarter of the mean: `1/4 · (s / 131072) = s / 524288`. -/
theorem quarter_mean (s : EReal) (hs : IsReal s) :
    Ideal.ofBits FTy.f32 0x3E800000#32 * Ideal.div s (Ideal.ofBits FTy.f32 0x48000000#32) = s * ((1 / 524288 : ℝ) : EReal) := by
  have h1 : Ideal.ofBits FTy.f32 0x3E800000#32 = ((1 / 4 : ℝ) : EReal) := by
    simp [Ideal.ofBits, Ideal.ieee]
    norm_num
    rw [← EReal.coe_mul, EReal.coe_eq_coe_iff]
    norm_num
  have h2 : Ideal.ofBits FTy.f32 0x48000000#32 = ((131072 : ℝ) : EReal) := by
    simp [Ideal.ofBits, Ideal.ieee]
    norm_num
    rw [← EReal.coe_mul, EReal.coe_eq_coe_iff]
    norm_num
  obtain ⟨t, rfl⟩ := hs
  rw [h1, h2, Ideal.div, if_neg (by norm_num), ← EReal.coe_inv, ← EReal.coe_mul, ← EReal.coe_mul, ← EReal.coe_mul, EReal.coe_eq_coe_iff]
  ring

/-- A sum over the rows is a sum over the batches and their positions. -/
theorem sum_rows (f : Fin 4096 → EReal) : ∑ r, f r = ∑ b : Fin 8, ∑ p : Fin 512, f (rowOf b p) := by
  rw [← Fintype.sum_prod_type']
  exact (Fintype.sum_equiv (finProdFinEquiv (m := 8) (n := 512)) _ _ fun q => congrArg f (Fin.ext (by
    show q.1.val * 512 + q.2.val = q.2.val + 512 * q.1.val
    omega))).symm

/-- The loss of the rows. -/
theorem refLoss_apply (z q : FVec Ideal S4096x32 .f32) (hz : ∀ i, IsReal (z i)) (hq : ∀ i, IsReal (q i)) (j : S_.Idx) :
    refLoss z q j = (∑ b : Fin 8, ∑ p : Fin 512, ∑ k : Fin 32, (q (ix2 (rowOf b p) k) - z (ix2 (rowOf b p) k)) *
      (q (ix2 (rowOf b p) k) - z (ix2 (rowOf b p) k))) * ((1 / 524288 : ℝ) : EReal) := by
  delta refLoss
  pointwise
  rw [quarter_mean _ (IsReal.sum _ _ fun r => IsReal.sum _ _ fun k => ((hq _).sub (hz _)).mul ((hq _).sub (hz _))), sum_rows]

/-- The output of the rows. -/
theorem refOut_apply (z q : FVec Ideal S4096x32 .f32) (wout : FVec Ideal S2048x32 .f32) (bout : FVec Ideal S2048 .f32)
    (hz : ∀ i, IsReal (z i)) (hq : ∀ i, IsReal (q i)) (b : Fin 8) (e : Fin 2048) (p : Fin 512) :
    refOut z q wout bout (ix3 b e p) = (∑ k : Fin 32, wout (ix2 e k) * q (ix2 (rowOf b p) k)) + bout (ix1 e) := by
  delta refOut
  pointwise
  refine congrArg (· + bout (ix1 e)) (Finset.sum_congr rfl fun k _ => ?_)
  rw [add_sub_self (hz _) (hq _), mul_comm]
  rfl

end Cert.Proof
-- ==== Proof.ArgMin.lean ====
/- The reference's arg-min is the first index of least distance. -/
module

public import proofs.«01_k».proof.Proof.RefRead

@[expose] public section

set_option maxRecDepth 16384

noncomputable section

namespace Cert.Proof

open Idealize.ShloMosaic Idealize.ShloMosaic.TcCoe Idealize.SL.Sem
open Cert.ReferenceIdeal Cert.ReferenceIdeal.Gen

/-- A left fold whose step keeps `p` against everything in `S`, from either side, and stays in `S` otherwise,
    ends at `p` if `p` is met. -/
theorem foldl_pick {α : Type} (f : α → α → α) (p : α) (S : α → Prop) (hl : ∀ a, S a → f a p = p) (hr : ∀ b, S b → f p b = p)
    (hp : f p p = p) (hs : ∀ a b, S a → S b → S (f a b)) :
    ∀ (L : List α) (acc : α), (∀ q ∈ L, q = p ∨ S q) → (acc = p ∨ S acc ∧ p ∈ L) → L.foldl f acc = p := by
  intro L
  induction L with
  | nil =>
    rintro acc - (h | ⟨-, h⟩)
    · exact h
    · exact absurd h List.not_mem_nil
  | cons q L ih =>
    intro acc hL hacc
    rw [List.foldl_cons]
    have hL' : ∀ q' ∈ L, q' = p ∨ S q' := fun q' h => hL q' (List.mem_cons_of_mem _ h)
    have hq := hL q List.mem_cons_self
    obtain rfl | ⟨ha, hm⟩ := hacc
    · refine ih _ hL' (Or.inl ?_)
      obtain rfl | hq := hq
      · exact hp
      · exact hr q hq
    · obtain rfl | hm := List.mem_cons.mp hm
      · exact ih _ hL' (Or.inl (hl acc ha))
      · obtain rfl | hq := hq
        · exact ih _ hL' (Or.inl (hl acc ha))
        · exact ih _ hL' (Or.inr ⟨hs acc q ha hq, hm⟩)

/-- What loses to the pair `(v, w)`: a larger value, or the same value with a larger index. -/
def Loses (v : EReal) (w : BitVec 32) (q : EReal × BitVec 32) : Prop := v < q.1 ∨ v = q.1 ∧ w.slt q.2 = true

/-- The step of the arg-min: the left pair if the right one loses to it, else the right pair. -/
theorem step_of_loses (a b : Ideal FTy.f32 × BitVec 32) (h : Loses a.1 a.2 b) : reducer_argmin_f32_i32 (F := Ideal) a b = a := by
  obtain ⟨x, u⟩ := a
  obtain ⟨y, w⟩ := b
  simp only [reducer_argmin_f32_i32, Ideal.cmpf_def, Ideal.cmp]
  obtain h | ⟨h, h'⟩ := h
  · have h : x < y := h
    generalize IntOp.andi (BitVec.ofBool (decide (x = y))) (IntOp.cmpi CmpIPredicate.slt u w) = t
    revert t
    simp only [h, decide_true, ne_eq, not_true_eq_false, decide_false]
    have : ∀ t : BitVec 1, IntOp.ori (BitVec.ofBool true) (BitVec.ofBool false) = 1#1 ∧
        IntOp.ori (IntOp.ori (BitVec.ofBool true) (BitVec.ofBool false)) t = 1#1 := by decide
    intro t
    rw [(this t).2, (this t).1]
    rfl
  · obtain rfl : x = y := h
    have h' : u.slt w = true := h'
    simp [h', Scalar.select, IntOp.ori, IntOp.andi, IntOp.cmpi]

/-- The step of the arg-min: the right pair if it does not lose to the left one. -/
theorem step_of_not_loses (a b : Ideal FTy.f32 × BitVec 32) (h : ¬Loses a.1 a.2 b) : reducer_argmin_f32_i32 (F := Ideal) a b = b := by
  obtain ⟨x, u⟩ := a
  obtain ⟨y, w⟩ := b
  simp only [reducer_argmin_f32_i32, Ideal.cmpf_def, Ideal.cmp]
  have h1 : ¬x < y := fun h1 => h (Or.inl h1)
  by_cases h2 : x = y
  · subst h2
    have h3 : u.slt w = false := Bool.eq_false_iff.mpr fun h3 => h (Or.inr ⟨rfl, h3⟩)
    simp [h3, Scalar.select, IntOp.ori, IntOp.andi, IntOp.cmpi]
  · simp [h1, h2, Scalar.select, IntOp.ori, IntOp.andi]

/-- A smaller index of equal value is never beaten back. -/
theorem slt_asymm {u w : BitVec 32} (h : u.slt w = true) : w.slt u = false := by
  rw [BitVec.slt_eq_decide] at h ⊢
  have := of_decide_eq_true h
  exact decide_eq_false (by omega)

/-- The fold of the arg-min over a list of pairs ends at the pair to which every other one loses. -/
theorem fold_argmin (v : EReal) (w : BitVec 32) (L : List (Ideal FTy.f32 × BitVec 32)) (acc : Ideal FTy.f32 × BitVec 32)
    (hL : ∀ q ∈ L, q = (v, w) ∨ Loses v w q) (hacc : Loses v w acc) (hm : (v, w) ∈ L) :
    L.foldl (reducer_argmin_f32_i32 (F := Ideal)) acc = (v, w) := by
  refine foldl_pick _ (v, w) (Loses v w) (fun a ha => step_of_not_loses a (v, w) ?_) (fun b hb => step_of_loses (v, w) b hb)
    ?_ (fun a b ha hb => ?_) L acc hL (Or.inr ⟨hacc, hm⟩)
  · rintro (h | ⟨h, h'⟩)
    · obtain ha | ⟨ha, -⟩ := ha
      · exact lt_asymm h ha
      · exact absurd ha h.ne'
    · obtain ha | ⟨-, ha⟩ := ha
      · exact absurd h ha.ne'
      · rw [slt_asymm ha] at h'
        exact absurd h' Bool.false_ne_true
  · by_cases h : Loses v w (v, w)
    · exact step_of_loses (v, w) (v, w) h
    · exact step_of_not_loses (v, w) (v, w) h
  · by_cases h : Loses a.1 a.2 b
    · rw [step_of_loses a b h]
      exact ha
    · rw [step_of_not_loses a b h]
      exact hb

/-- The pairs a reduction folds over are those of the indices that drop to the result's. -/
theorem mem_fiber {s t : Shape} {axes : List (Fin s.rank)} {α β : Type} (x : s.Idx → α) (y : s.Idx → β) (h : s.ReducesTo axes t)
    (j : t.Idx) (q : α × β) : q ∈ Host.argReduceFiber x y h j ↔ ∃ i : s.Idx, h.drop i = j ∧ (x i, y i) = q := by
  rw [Host.argReduceFiber, List.mem_map]
  constructor
  · rintro ⟨n, hn, hq⟩
    exact ⟨s.rowMajor.symm n, of_decide_eq_true (List.mem_filter.mp hn).2, hq⟩
  · rintro ⟨i, hi, hq⟩
    refine ⟨s.rowMajor i, List.mem_filter.mpr ⟨List.mem_finRange _, ?_⟩, ?_⟩
    · rw [Equiv.symm_apply_apply]
      exact decide_eq_true hi
    · rw [Equiv.symm_apply_apply]
      exact hq

/-- An arg-min from positive infinity finds the index word of the first least element, where that is not infinite. -/
theorem pickIdx_apply {s t u : Shape} {axes : List (Fin s.rank)} (x : FVec Ideal s .f32) (y : s.Idx → BitVec 32)
    (x₀ : FVec Ideal u .f32) (y₀ : u.Idx → BitVec 32) (h : s.ReducesTo axes t) (hu : 0 < u.numel) (j : t.Idx) (i₀ : s.Idx)
    (h₀ : h.drop i₀ = j) (hl : ∀ i, h.drop i = j → (x i, y i) = (x i₀, y i₀) ∨ Loses (x i₀) (y i₀) (x i, y i))
    (hx : ∀ k, x₀ k = (⊤ : EReal)) (ht : x i₀ ≠ (⊤ : EReal)) :
    pickIdx h hu x y x₀ y₀ j = y i₀ := by
  refine congrArg Prod.snd (show Host.argReduce reducer_argmin_f32_i32 x y x₀ y₀ h hu j = (x i₀, y i₀) from ?_)
  rw [Ideal.argReduce_eq_reduce2, Host.reduce2_eq_foldl_fiber]
  refine fold_argmin (x i₀) (y i₀) _ _ (fun q hq => ?_) (Or.inl ?_) ((mem_fiber _ _ _ _ _).mpr ⟨i₀, h₀, rfl⟩)
  · obtain ⟨i, hi, rfl⟩ := (mem_fiber _ _ _ _ _).mp hq
    exact hl i hi
  · rw [hx]
    exact lt_top_iff_ne_top.mpr ht

/-- Dropping the code axis of an index leaves its row. -/
theorem drop_row (i : S4096x16384.Idx) (r : Fin 4096) : reducesTo_S4096x16384_S4096_d1.drop i = ix1 r ↔ i 0 = r := by
  have e := Shape.ReducesTo.drop_apply_val_of_eq reducesTo_S4096x16384_S4096_d1 i 0 0
  constructor
  · intro h
    rw [h] at e
    exact Fin.ext e.symm
  · intro h
    rw [eq_ix1 (reducesTo_S4096x16384_S4096_d1.drop i), ← h]
    exact congrArg ix1 (Fin.ext e)

/-- Indices compare as words as they do as numbers. -/
theorem slt_of_lt {a i : Fin 16384} (h : a < i) : (BitVec.ofNat 32 a.val).slt (BitVec.ofNat 32 i.val) = true := by
  have e : ∀ a : Fin 16384, (BitVec.ofNat 32 a.val).toInt = (a.val : ℤ) := fun a => by
    have ha := a.isLt
    rw [BitVec.toInt_eq_toNat_of_lt (by rw [BitVec.toNat_ofNat, Nat.mod_eq_of_lt (by omega)]; omega), BitVec.toNat_ofNat,
      Nat.mod_eq_of_lt (by omega)]
  rw [BitVec.slt_eq_decide, e, e]
  exact decide_eq_true (Int.ofNat_lt.mpr h)

/-- Every other pair of row `r` loses to the first least one. -/
theorem row_loses (f : Fin 16384 → EReal) (a i : Fin 16384) (ha : FirstMin f 16384 a) :
    (f i, BitVec.ofNat 32 i.val) = (f a, BitVec.ofNat 32 a.val) ∨ Loses (f a) (BitVec.ofNat 32 a.val) (f i, BitVec.ofNat 32 i.val) := by
  obtain h | h | h := lt_trichotomy i a
  · exact Or.inr (Or.inl (ha.2.2 i h))
  · exact Or.inl (by rw [h])
  · obtain h' | h' := (ha.2.1 i i.isLt).lt_or_eq
    · exact Or.inr (Or.inl h')
    · exact Or.inr (Or.inr ⟨h', slt_of_lt h⟩)

/-- The code axis counts the codes. -/
theorem iota_ix2 (r : Fin 4096) (i : Fin 16384) : iotaInDim S4096x16384 32 1 (ix2 r i) = BitVec.ofNat 32 i.val := rfl

/-- An index of row `r` is `r` and its code. -/
theorem row_form (i : S4096x16384.Idx) (r : Fin 4096) (hi : reducesTo_S4096x16384_S4096_d1.drop i = ix1 r) :
    ∃ k : Fin 16384, i = ix2 r k := by
  refine ⟨i 1, ?_⟩
  rw [← (drop_row i r).mp hi]
  exact eq_ix2 i

/-- The index the reference finds in row `r`: the first of least distance. -/
theorem refIdx_apply (d : FVec Ideal S4096x16384 .f32) (r : Fin 4096) (a : Fin 16384)
    (ha : FirstMin (fun i => d (ix2 r i)) 16384 a) (ht : d (ix2 r a) ≠ ⊤) : refIdx d (ix1 r) = BitVec.ofNat 32 a.val := by
  rw [← iota_ix2 r a]
  delta refIdx
  refine pickIdx_apply _ _ _ _ _ _ _ _ ((drop_row _ r).mpr rfl) (fun i hi => ?_) (fun _ => word_top) ht
  obtain ⟨k, rfl⟩ := row_form i r hi
  rw [iota_ix2, iota_ix2]
  exact row_loses (fun k => d (ix2 r k)) a k ha

end Cert.Proof
-- ==== Proof.RefSpec.lean ====
/- The reference's stages compute the specified results. -/
module

public import proofs.«01_k».proof.Proof.ArgMin

@[expose] public section

set_option maxRecDepth 16384

noncomputable section

namespace Cert.Proof

open Idealize.ShloMosaic Idealize.ShloMosaic.TcCoe Idealize.SL.Sem
open Cert.ReferenceIdeal Cert.ReferenceIdeal.Gen

/-- The indices, read as rows of batches. -/
theorem cast_apply (v : IVec S4096 32) (a : Fin 1) (b : Fin 8) (p : Fin 512) :
    shapeCast S1x8x512 v shapeCasts_S4096_S1x8x512 (ix3 a b p) = v (ix1 (rowOf b p)) := by
  pointwise
  rfl

/-- The specified indices at a position of a batch. -/
theorem idxSpec_apply (x : FVec Ideal S8x2048x512 .f32) (win : FVec Ideal S32x2048 .f32) (bin : FVec Ideal S32 .f32)
    (cb : FVec Ideal S16384x32 .f32) (a : Fin 1) (b : Fin 8) (p : Fin 512) :
    idxSpec x win bin cb (ix3 a b p) = BitVec.ofNat 32 (codeOf x win bin cb b p).val :=
  congrArg₂ (fun b p => BitVec.ofNat 32 (codeOf x win bin cb b p).val) (rfl : (ix3 a b p) 1 = b) (rfl : (ix3 a b p) 2 = p)

variable (x : FVec Ideal S8x2048x512 .f32) (win : FVec Ideal S32x2048 .f32) (bin : FVec Ideal S32 .f32)
  (cb : FVec Ideal S16384x32 .f32) (hr : RealArgs x win bin cb)

include hr

/-- The projected input is real. -/
theorem refZ_real (i : S4096x32.Idx) : IsReal (refZ x win bin i) := by
  rw [eq_ix2 i]
  exact (refZ_apply x win bin (i 0) (i 1)).symm ▸ zVal_real hr.x hr.win hr.bin _ _ _

/-- The reference's index is the nearest code's. -/
theorem refIdx_spec (r : Fin 4096) : refIdx (refDist (refZ x win bin) cb) (ix1 r) =
    BitVec.ofNat 32 (codeOf x win bin cb (rowBatch r) (rowPos r)).val := by
  have hz : (fun k => refZ x win bin (ix2 r k)) = zVal x win bin (rowBatch r) (rowPos r) :=
    funext fun k => refZ_apply x win bin r k
  have hd : ∀ i, refDist (refZ x win bin) cb (ix2 r i) = codeDist (zVal x win bin (rowBatch r) (rowPos r)) cb i := fun i => by
    rw [refDist_apply, hz]
  have hv := zVal_real hr.x hr.win hr.bin (rowBatch r) (rowPos r)
  refine refIdx_apply _ r _ ?_ ?_
  · rw [funext hd]
    exact nearest_dist _ cb hv hr.cb
  · rw [hd]
    exact codeDist_ne_top _ cb hv hr.cb _

/-- The looked-up row is the nearest code. -/
theorem refTake_spec (r : Fin 4096) (k : Fin 32) : refTake cb (refIdx (refDist (refZ x win bin) cb)) (ix2 r k) =
    cb (ix2 (codeOf x win bin cb (rowBatch r) (rowPos r)) k) :=
  refTake_apply cb _ r _ (refIdx_spec x win bin cb hr r) k

/-- The looked-up codes are real. -/
theorem refTake_real (i : S4096x32.Idx) : IsReal (refTake cb (refIdx (refDist (refZ x win bin) cb)) i) := by
  rw [eq_ix2 i]
  exact (refTake_spec x win bin cb hr (i 0) (i 1)).symm ▸ hr.cb _

/-- The reference's first result is the specified one. -/
theorem refOut_spec (wout : FVec Ideal S2048x32 .f32) (bout : FVec Ideal S2048 .f32) :
    refOut (refZ x win bin) (refTake cb (refIdx (refDist (refZ x win bin) cb))) wout bout = outSpec x win bin cb wout bout := by
  funext j
  obtain ⟨b, e, p, rfl⟩ : ∃ b e p, j = ix3 b e p := ⟨_, _, _, eq_ix3 j⟩
  rw [refOut_apply _ _ wout bout (refZ_real x win bin cb hr) (refTake_real x win bin cb hr)]
  have h : ∀ k, refTake cb (refIdx (refDist (refZ x win bin) cb)) (ix2 (rowOf b p) k) = cb (ix2 (codeOf x win bin cb b p) k) :=
    fun k => by rw [refTake_spec x win bin cb hr, rowBatch_rowOf, rowPos_rowOf]
  simp only [h]
  rfl

/-- Its second result is the specified one. -/
theorem refIdx_cast_spec :
    shapeCast S1x8x512 (refIdx (refDist (refZ x win bin) cb)) shapeCasts_S4096_S1x8x512 = idxSpec x win bin cb := by
  funext j
  obtain ⟨a, b, p, rfl⟩ : ∃ a b p, j = ix3 a b p := ⟨_, _, _, eq_ix3 j⟩
  have h := refIdx_spec x win bin cb hr (rowOf b p)
  rw [rowBatch_rowOf, rowPos_rowOf] at h
  rw [idxSpec_apply, ← h]
  exact cast_apply _ a b p

/-- Its third result is the specified one. -/
theorem refLoss_spec :
    refLoss (refZ x win bin) (refTake cb (refIdx (refDist (refZ x win bin) cb))) = lossSpec x win bin cb := by
  funext j
  rw [refLoss_apply _ _ (refZ_real x win bin cb hr) (refTake_real x win bin cb hr), lossSpec]
  refine congrArg (· * ((1 / 524288 : ℝ) : EReal)) (Finset.sum_congr rfl fun b _ => ?_)
  refine Finset.sum_congr rfl fun p _ => Finset.sum_congr rfl fun k _ => ?_
  rw [refTake_spec x win bin cb hr, refZ_apply, rowBatch_rowOf, rowPos_rowOf]

end Cert.Proof
-- ==== Proof.RefRun.lean ====
/- The reference's run over the extended reals, in its stages. -/
module

public import proofs.«01_k».proof.Proof.RefRead
public import Idealize.ShloMosaic.Lib.Claim

@[expose] public section

set_option maxRecDepth 16384

noncomputable section

namespace Cert.Proof

open Idealize.ShloMosaic Idealize.ShloMosaic.TcCoe Idealize.SL.Sem
open Cert.ReferenceIdeal Cert.ReferenceIdeal.Gen

variable (m : (ℓ : Loc nD τ sig) → Buf (Elt Ideal) ℓ) (c : Dev nD)

/-- The projected input of the arguments on device `c`. -/
def refZAt : FVec Ideal S4096x32 .f32 :=
  refZ (m (c.tc.loc main_arg0)) (m (c.tc.loc main_arg1)) (m (c.tc.loc main_arg2))
/-- The indices it finds. -/
def refIdxAt : IVec S4096 32 := refIdx (refDist (refZAt m c) (m (c.tc.loc main_arg3)))
/-- The codes it looks up. -/
def refTakeAt : FVec Ideal S4096x32 .f32 := refTake (m (c.tc.loc main_arg3)) (refIdxAt m c)

/-- The arg-min of the reference as the stage names it. -/
theorem pickIdx_fun {s t u : Shape} {axes : List (Fin s.rank)} (x : FVec Ideal s .f32) (y : s.Idx → BitVec 32) (x₀ : FVec Ideal u .f32)
    (y₀ : u.Idx → BitVec 32) (h : s.ReducesTo axes t) (hu : 0 < u.numel) :
    (fun j => (Host.argReduce reducer_argmin_f32_i32 x y x₀ y₀ h hu j).2) = pickIdx h hu x y x₀ y₀ := rfl

/-- The indices, as the last reshape reads them. -/
theorem reshape_idx (a b : IVec S4096 32) (h : a = b) :
    (fun i => shapeCast main_v37.ty.shape a shapeCasts_S4096_S1x8x512 i) = shapeCast S1x8x512 b shapeCasts_S4096_S1x8x512 := by
  subst h
  rfl

/-- The reference ends with its stages' results, its arguments as they were. -/
theorem reference_run (g : Dev nD → PrngReg) :
    θ_run (defs (F := Ideal)) (onTc (τ := τ) (main (F := Ideal))) ⟨m, fun _ => 0, g⟩ (fun r => ∀ c : Dev nD,
      r.2.mem (c.tc.loc main_v36) = refOut (refZAt m c) (refTakeAt m c) (m (c.tc.loc main_arg4)) (m (c.tc.loc main_arg5))
      ∧ r.2.mem (c.tc.loc main_v37) = shapeCast S1x8x512 (refIdxAt m c) shapeCasts_S4096_S1x8x512
      ∧ r.2.mem (c.tc.loc main_v27) = refLoss (refZAt m c) (refTakeAt m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) := by
  hlo_run
  all_goals rw [pickIdx_fun]
  all_goals simp only [StableHlo.TRef.ofBuf_toBuf]
  · delta refOut refTakeAt refTake refIn refCol refIdxAt refIdx refDist refZAt refZ
    generalize pickIdx reducesTo_S4096x16384_S4096_d1 h_S_ = f
    rfl
  · delta refIdxAt refIdx refDist refZAt refZ
    generalize pickIdx reducesTo_S4096x16384_S4096_d1 h_S_ = f
    refine reshape_idx _ _ ?_
    rfl
  · delta refLoss refTakeAt refTake refIn refCol refIdxAt refIdx refDist refZAt refZ
    generalize pickIdx reducesTo_S4096x16384_S4096_d1 h_S_ = f
    rfl

end Cert.Proof
-- ==== Proof.Algebraic.lean ====
/- Over the extended reals the kernel and the reference end with equal results. -/
module

public import proofs.«01_k».proof.Proof.KernelRun
public import proofs.«01_k».proof.Proof.Finite
public import proofs.«01_k».proof.Proof.RefSpec
public import proofs.«01_k».proof.Proof.RefRun

@[expose] public section

set_option maxRecDepth 16384

noncomputable section

namespace Cert.Proof

open Idealize.ShloMosaic Idealize.ShloMosaic.TcCoe Idealize.SL.Sem

/-- On finite arguments both programs end with the specified results, their arguments as they were. -/
theorem algebraic : Cert.algebraic_KernelIdeal_ReferenceIdeal_pre_finite_inputs := by
  intro m g m' g' hpre hagree
  refine ⟨fun c => outAt m c, fun c => idxAt m c, fun c => lossAt m c, kernel_run m g (real_args m hpre), ?_⟩
  refine θ_run_mono (reference_run m' g') fun r h c => ?_
  obtain ⟨h0, h1, h2, hargs⟩ := h c
  obtain ⟨e0, e1, e2, e3, e4, e5⟩ := hagree c
  have hr := real_args m hpre c
  refine ⟨h0.trans ?_, h1.trans ?_, h2.trans ?_, hargs⟩
  · delta refTakeAt refIdxAt refZAt outAt
    rw [e0, e1, e2, e3, e4, e5]
    exact refOut_spec _ _ _ _ hr _ _
  · delta refIdxAt refZAt idxAt
    rw [e0, e1, e2, e3]
    exact refIdx_cast_spec _ _ _ _ hr
  · delta refTakeAt refIdxAt refZAt lossAt
    rw [e0, e1, e2, e3]
    exact refLoss_spec _ _ _ _ hr

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import proofs.«01_k».proof.Proof.Gen.Pre_finite_inputs

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_finite_inputs.Gen.facts,
    frame_kernel, frame_kernelIdeal, fun m g _ => Cert.KernelIdeal.Gen.frame m g,
    frame_reference, fun m g _ => frame_reference m g trivial, preserves_kernel, algebraic⟩

end Cert.Proof

end
